-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 4096, 4096]⟩ ⟨3, ![2, 4096, 4096]⟩ (Layout.meshBlock [2, 2, 2] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)) →
    ∃ (v0 : Buf (Elt Ideal) (((0 : Dev Cert.ReferenceIdeal.nD).tc : Thread Cert.ReferenceIdeal.nD Cert.ReferenceIdeal.τ).loc Cert.ReferenceIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v14) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x4096x4096 : Shape := ⟨3, ![1, 4096, 4096]⟩
abbrev S4096x4096 : Shape := ⟨2, ![4096, 4096]⟩
abbrev S4096 : Shape := ⟨1, ![4096]⟩
abbrev S1x4096 : Shape := ⟨2, ![1, 4096]⟩
abbrev S16x64x4096 : Shape := ⟨3, ![16, 64, 4096]⟩
abbrev S2x64x4096 : Shape := ⟨3, ![2, 64, 4096]⟩
abbrev S16 : Shape := ⟨1, ![16]⟩
abbrev S2 : Shape := ⟨1, ![2]⟩
abbrev S_ : Shape := ⟨0, ![]⟩
abbrev S1 : Shape := ⟨1, ![1]⟩
abbrev S1x64x4096 : Shape := ⟨3, ![1, 64, 4096]⟩
abbrev S64x4096 : Shape := ⟨2, ![64, 4096]⟩
abbrev S64 : Shape := ⟨1, ![64]⟩
abbrev S64x1 : Shape := ⟨2, ![64, 1]⟩

abbrev nBuf : Space → Nat
  | .hbm => 5
  | .vmem => 5
  | .smem => 0
  | _ => 0

abbrev bufTy : (tb : Table) → Fin (tcTables nBuf tb) → BufTy
  | .hbm, ⟨0, _⟩ => ⟨S1x4096x4096, .f32⟩
  | .hbm, ⟨1, _⟩ => ⟨S4096x4096, .f32⟩
  | .hbm, ⟨2, _⟩ => ⟨S4096, .f32⟩
  | .hbm, ⟨3, _⟩ => ⟨S1x4096, .f32⟩
  | .hbm, ⟨4, _⟩ => ⟨S4096x4096, .f32⟩
  | .local _ .vmem, ⟨0, _⟩ => ⟨S1x4096, .f32⟩
  | .local _ .vmem, ⟨1, _⟩ => ⟨S16x64x4096, .f32⟩
  | .local _ .vmem, ⟨2, _⟩ => ⟨S2x64x4096, .f32⟩
  | .local _ .vmem, ⟨3, _⟩ => ⟨S2x64x4096, .f32⟩
  | .local _ .vmem, ⟨4, _⟩ => ⟨S2x64x4096, .f32⟩
  | _, _ => ⟨S1x4096x4096, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 135 → Bool
  | ⟨i, _⟩ => dmaSemScopedAt i

abbrev sig : RefSig :=
  (ofTc nBuf bufTy 1 135 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_sem0_0 : DmaSem sig := 0
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_18 : BitVec 32 := 4#32
  let v29 : BitVec 32 := Scalar.muli v2 c4_i32_18
  let v30 : BitVec 32 := Scalar.addi c0_i32 v29
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_19 : BitVec 32 := 2#32
  let v31 : BitVec 32 := Scalar.muli v9 c2_i32_19
  let v32 : BitVec 32 := Scalar.addi v30 v31
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_20 : BitVec 32 := 1#32
  let v33 : BitVec 32 := Scalar.muli v8 c1_i32_20
  let v34 : BitVec 32 := Scalar.addi v32 v33
  v34.toNat
def k0_dev2 (d0 : Dev nD) : Nat :=
  let c0_i32_23 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_22 : BitVec 32 := 4#32
  let v35 : BitVec 32 := Scalar.muli v10 c4_i32_22
  let v36 : BitVec 32 := Scalar.addi c0_i32_23 v35
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_24 : BitVec 32 := 2#32
  let v37 : BitVec 32 := Scalar.muli v5 c2_i32_24
  let v38 : BitVec 32 := Scalar.addi v36 v37
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_25 : BitVec 32 := 1#32
  let v39 : BitVec 32 := Scalar.muli v8 c1_i32_25
  let v40 : BitVec 32 := Scalar.addi v38 v39
  v40.toNat
def k0_dev3 (d0 : Dev nD) : Nat :=
  let c0_i32_28 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_27 : BitVec 32 := 4#32
  let v41 : BitVec 32 := Scalar.muli v2 c4_i32_27
  let v42 : BitVec 32 := Scalar.addi c0_i32_28 v41
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_29 : BitVec 32 := 2#32
  let v43 : BitVec 32 := Scalar.muli v5 c2_i32_29
  let v44 : BitVec 32 := Scalar.addi v42 v43
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_30 : BitVec 32 := 1#32
  let v45 : BitVec 32 := Scalar.muli v11 c1_i32_30
  let v46 : BitVec 32 := Scalar.addi v44 v45
  v46.toNat
def k0_off1 (d0 : Dev nD) (c0_i32_31 : BitVec 32) : Fin 3 → Nat :=
  let c0_i32_32 : BitVec 32 := 0#32
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c1024_i32 : BitVec 32 := 1024#32
  let v14 : BitVec 32 := Scalar.muli v13 c1024_i32
  let v47 : BitVec 32 := Scalar.addi v14 c0_i32_31
  let c0_i32_42 : BitVec 32 := 0#32
  ![0, v47.toNat, 0]
def k0_dev4 (d0 : Dev nD) : Nat :=
  let c0_i32_37 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_36 : BitVec 32 := 4#32
  let v48 : BitVec 32 := Scalar.muli v2 c4_i32_36
  let v49 : BitVec 32 := Scalar.addi c0_i32_37 v48
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_38 : BitVec 32 := 2#32
  let v50 : BitVec 32 := Scalar.muli v9 c2_i32_38
  let v51 : BitVec 32 := Scalar.addi v49 v50
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_39 : BitVec 32 := 1#32
  let v52 : BitVec 32 := Scalar.muli v8 c1_i32_39
  let v53 : BitVec 32 := Scalar.addi v51 v52
  v53.toNat
def k0_dev5 (d0 : Dev nD) : Nat :=
  let c0_i32_48 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_47 : BitVec 32 := 4#32
  let v63 : BitVec 32 := Scalar.muli v2 c4_i32_47
  let v64 : BitVec 32 := Scalar.addi c0_i32_48 v63
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_49 : BitVec 32 := 2#32
  let v65 : BitVec 32 := Scalar.muli v9 c2_i32_49
  let v66 : BitVec 32 := Scalar.addi v64 v65
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_50 : BitVec 32 := 1#32
  let v67 : BitVec 32 := Scalar.muli v8 c1_i32_50
  let v68 : BitVec 32 := Scalar.addi v66 v67
  v68.toNat
def k0_dev6 (d0 : Dev nD) : Nat :=
  let c0_i32_59 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_58 : BitVec 32 := 4#32
  let v78 : BitVec 32 := Scalar.muli v2 c4_i32_58
  let v79 : BitVec 32 := Scalar.addi c0_i32_59 v78
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_60 : BitVec 32 := 2#32
  let v80 : BitVec 32 := Scalar.muli v9 c2_i32_60
  let v81 : BitVec 32 := Scalar.addi v79 v80
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_61 : BitVec 32 := 1#32
  let v82 : BitVec 32 := Scalar.muli v8 c1_i32_61
  let v83 : BitVec 32 := Scalar.addi v81 v82
  v83.toNat
def k0_dev7 (d0 : Dev nD) : Nat :=
  let c0_i32_70 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_69 : BitVec 32 := 4#32
  let v93 : BitVec 32 := Scalar.muli v2 c4_i32_69
  let v94 : BitVec 32 := Scalar.addi c0_i32_70 v93
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_71 : BitVec 32 := 2#32
  let v95 : BitVec 32 := Scalar.muli v9 c2_i32_71
  let v96 : BitVec 32 := Scalar.addi v94 v95
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_72 : BitVec 32 := 1#32
  let v97 : BitVec 32 := Scalar.muli v8 c1_i32_72
  let v98 : BitVec 32 := Scalar.addi v96 v97
  v98.toNat
def k0_dev8 (d0 : Dev nD) : Nat :=
  let c0_i32_81 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_80 : BitVec 32 := 4#32
  let v108 : BitVec 32 := Scalar.muli v2 c4_i32_80
  let v109 : BitVec 32 := Scalar.addi c0_i32_81 v108
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_82 : BitVec 32 := 2#32
  let v110 : BitVec 32 := Scalar.muli v9 c2_i32_82
  let v111 : BitVec 32 := Scalar.addi v109 v110
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_83 : BitVec 32 := 1#32
  let v112 : BitVec 32 := Scalar.muli v8 c1_i32_83
  let v113 : BitVec 32 := Scalar.addi v111 v112
  v113.toNat
def k0_dev9 (d0 : Dev nD) : Nat :=
  let c0_i32_91 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_90 : BitVec 32 := 4#32
  let v123 : BitVec 32 := Scalar.muli v2 c4_i32_90
  let v124 : BitVec 32 := Scalar.addi c0_i32_91 v123
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_92 : BitVec 32 := 2#32
  let v125 : BitVec 32 := Scalar.muli v9 c2_i32_92
  let v126 : BitVec 32 := Scalar.addi v124 v125
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_93 : BitVec 32 := 1#32
  let v127 : BitVec 32 := Scalar.muli v8 c1_i32_93
  let v128 : BitVec 32 := Scalar.addi v126 v127
  v128.toNat
def k0_dev10 (d0 : Dev nD) : Nat :=
  let c0_i32_101 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_100 : BitVec 32 := 4#32
  let v138 : BitVec 32 := Scalar.muli v2 c4_i32_100
  let v139 : BitVec 32 := Scalar.addi c0_i32_101 v138
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_102 : BitVec 32 := 2#32
  let v140 : BitVec 32 := Scalar.muli v9 c2_i32_102
  let v141 : BitVec 32 := Scalar.addi v139 v140
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_103 : BitVec 32 := 1#32
  let v142 : BitVec 32 := Scalar.muli v8 c1_i32_103
  let v143 : BitVec 32 := Scalar.addi v141 v142
  v143.toNat
def k0_dev11 (d0 : Dev nD) : Nat :=
  let c0_i32_111 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_110 : BitVec 32 := 4#32
  let v153 : BitVec 32 := Scalar.muli v2 c4_i32_110
  let v154 : BitVec 32 := Scalar.addi c0_i32_111 v153
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_112 : BitVec 32 := 2#32
  let v155 : BitVec 32 := Scalar.muli v9 c2_i32_112
  let v156 : BitVec 32 := Scalar.addi v154 v155
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_113 : BitVec 32 := 1#32
  let v157 : BitVec 32 := Scalar.muli v8 c1_i32_113
  let v158 : BitVec 32 := Scalar.addi v156 v157
  v158.toNat
def k0_dev12 (d0 : Dev nD) : Nat :=
  let c0_i32_121 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_120 : BitVec 32 := 4#32
  let v168 : BitVec 32 := Scalar.muli v2 c4_i32_120
  let v169 : BitVec 32 := Scalar.addi c0_i32_121 v168
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_122 : BitVec 32 := 2#32
  let v170 : BitVec 32 := Scalar.muli v9 c2_i32_122
  let v171 : BitVec 32 := Scalar.addi v169 v170
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_123 : BitVec 32 := 1#32
  let v172 : BitVec 32 := Scalar.muli v8 c1_i32_123
  let v173 : BitVec 32 := Scalar.addi v171 v172
  v173.toNat
def k0_dev13 (d0 : Dev nD) : Nat :=
  let c0_i32_131 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_130 : BitVec 32 := 4#32
  let v183 : BitVec 32 := Scalar.muli v2 c4_i32_130
  let v184 : BitVec 32 := Scalar.addi c0_i32_131 v183
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_132 : BitVec 32 := 2#32
  let v185 : BitVec 32 := Scalar.muli v9 c2_i32_132
  let v186 : BitVec 32 := Scalar.addi v184 v185
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_133 : BitVec 32 := 1#32
  let v187 : BitVec 32 := Scalar.muli v8 c1_i32_133
  let v188 : BitVec 32 := Scalar.addi v186 v187
  v188.toNat
def k0_dev14 (d0 : Dev nD) : Nat :=
  let c0_i32_141 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_140 : BitVec 32 := 4#32
  let v198 : BitVec 32 := Scalar.muli v2 c4_i32_140
  let v199 : BitVec 32 := Scalar.addi c0_i32_141 v198
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_142 : BitVec 32 := 2#32
  let v200 : BitVec 32 := Scalar.muli v9 c2_i32_142
  let v201 : BitVec 32 := Scalar.addi v199 v200
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_143 : BitVec 32 := 1#32
  let v202 : BitVec 32 := Scalar.muli v8 c1_i32_143
  let v203 : BitVec 32 := Scalar.addi v201 v202
  v203.toNat
def k0_dev15 (d0 : Dev nD) : Nat :=
  let c0_i32_151 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_150 : BitVec 32 := 4#32
  let v213 : BitVec 32 := Scalar.muli v2 c4_i32_150
  let v214 : BitVec 32 := Scalar.addi c0_i32_151 v213
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_152 : BitVec 32 := 2#32
  let v215 : BitVec 32 := Scalar.muli v9 c2_i32_152
  let v216 : BitVec 32 := Scalar.addi v214 v215
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_153 : BitVec 32 := 1#32
  let v217 : BitVec 32 := Scalar.muli v8 c1_i32_153
  let v218 : BitVec 32 := Scalar.addi v216 v217
  v218.toNat
def k0_dev16 (d0 : Dev nD) : Nat :=
  let c0_i32_161 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_160 : BitVec 32 := 4#32
  let v228 : BitVec 32 := Scalar.muli v2 c4_i32_160
  let v229 : BitVec 32 := Scalar.addi c0_i32_161 v228
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_162 : BitVec 32 := 2#32
  let v230 : BitVec 32 := Scalar.muli v9 c2_i32_162
  let v231 : BitVec 32 := Scalar.addi v229 v230
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_163 : BitVec 32 := 1#32
  let v232 : BitVec 32 := Scalar.muli v8 c1_i32_163
  let v233 : BitVec 32 := Scalar.addi v231 v232
  v233.toNat
def k0_dev17 (d0 : Dev nD) : Nat :=
  let c0_i32_171 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_170 : BitVec 32 := 4#32
  let v243 : BitVec 32 := Scalar.muli v2 c4_i32_170
  let v244 : BitVec 32 := Scalar.addi c0_i32_171 v243
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_172 : BitVec 32 := 2#32
  let v245 : BitVec 32 := Scalar.muli v9 c2_i32_172
  let v246 : BitVec 32 := Scalar.addi v244 v245
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_173 : BitVec 32 := 1#32
  let v247 : BitVec 32 := Scalar.muli v8 c1_i32_173
  let v248 : BitVec 32 := Scalar.addi v246 v247
  v248.toNat
def k0_dev18 (d0 : Dev nD) : Nat :=
  let c0_i32_181 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_180 : BitVec 32 := 4#32
  let v258 : BitVec 32 := Scalar.muli v2 c4_i32_180
  let v259 : BitVec 32 := Scalar.addi c0_i32_181 v258
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_182 : BitVec 32 := 2#32
  let v260 : BitVec 32 := Scalar.muli v9 c2_i32_182
  let v261 : BitVec 32 := Scalar.addi v259 v260
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_183 : BitVec 32 := 1#32
  let v262 : BitVec 32 := Scalar.muli v8 c1_i32_183
  let v263 : BitVec 32 := Scalar.addi v261 v262
  v263.toNat
def k0_dev19 (d0 : Dev nD) : Nat :=
  let c0_i32_191 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_190 : BitVec 32 := 4#32
  let v273 : BitVec 32 := Scalar.muli v2 c4_i32_190
  let v274 : BitVec 32 := Scalar.addi c0_i32_191 v273
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_192 : BitVec 32 := 2#32
  let v275 : BitVec 32 := Scalar.muli v9 c2_i32_192
  let v276 : BitVec 32 := Scalar.addi v274 v275
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_193 : BitVec 32 := 1#32
  let v277 : BitVec 32 := Scalar.muli v8 c1_i32_193
  let v278 : BitVec 32 := Scalar.addi v276 v277
  v278.toNat
def k0_off2 (d0 : Dev nD) (c0_i32_197 : BitVec 32) : Fin 2 → Nat :=
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c1024_i32 : BitVec 32 := 1024#32
  let v14 : BitVec 32 := Scalar.muli v13 c1024_i32
  let v287 : BitVec 32 := Scalar.addi v14 c0_i32_197
  let c0_i32_208 : BitVec 32 := 0#32
  ![v287.toNat, 0]
def k0_dev20 (d0 : Dev nD) : Nat :=
  let c0_i32_276 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_275 : BitVec 32 := 4#32
  let v371 : BitVec 32 := Scalar.muli v10 c4_i32_275
  let v372 : BitVec 32 := Scalar.addi c0_i32_276 v371
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_277 : BitVec 32 := 2#32
  let v373 : BitVec 32 := Scalar.muli v5 c2_i32_277
  let v374 : BitVec 32 := Scalar.addi v372 v373
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_278 : BitVec 32 := 1#32
  let v375 : BitVec 32 := Scalar.muli v8 c1_i32_278
  let v376 : BitVec 32 := Scalar.addi v374 v375
  v376.toNat
def k0_dev21 (d0 : Dev nD) : Nat :=
  let c0_i32_286 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_285 : BitVec 32 := 4#32
  let v384 : BitVec 32 := Scalar.muli v2 c4_i32_285
  let v385 : BitVec 32 := Scalar.addi c0_i32_286 v384
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_287 : BitVec 32 := 2#32
  let v386 : BitVec 32 := Scalar.muli v5 c2_i32_287
  let v387 : BitVec 32 := Scalar.addi v385 v386
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_288 : BitVec 32 := 1#32
  let v388 : BitVec 32 := Scalar.muli v11 c1_i32_288
  let v389 : BitVec 32 := Scalar.addi v387 v388
  v389.toNat
def k0_dev22 (d0 : Dev nD) : Nat :=
  let c0_i32_360 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_359 : BitVec 32 := 4#32
  let v469 : BitVec 32 := Scalar.muli v10 c4_i32_359
  let v470 : BitVec 32 := Scalar.addi c0_i32_360 v469
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_361 : BitVec 32 := 2#32
  let v471 : BitVec 32 := Scalar.muli v5 c2_i32_361
  let v472 : BitVec 32 := Scalar.addi v470 v471
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_362 : BitVec 32 := 1#32
  let v473 : BitVec 32 := Scalar.muli v8 c1_i32_362
  let v474 : BitVec 32 := Scalar.addi v472 v473
  v474.toNat
def k0_dev23 (d0 : Dev nD) : Nat :=
  let c0_i32_370 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_369 : BitVec 32 := 4#32
  let v482 : BitVec 32 := Scalar.muli v2 c4_i32_369
  let v483 : BitVec 32 := Scalar.addi c0_i32_370 v482
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_371 : BitVec 32 := 2#32
  let v484 : BitVec 32 := Scalar.muli v5 c2_i32_371
  let v485 : BitVec 32 := Scalar.addi v483 v484
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_372 : BitVec 32 := 1#32
  let v486 : BitVec 32 := Scalar.muli v11 c1_i32_372
  let v487 : BitVec 32 := Scalar.addi v485 v486
  v487.toNat
def k0_off3 (d0 : Dev nD) (c0_i32_376 : BitVec 32) : Fin 2 → Nat :=
  let c2_i32_11 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v20 : BitVec 32 := Scalar.muli c2_i32_11 v2
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v19 : BitVec 32 := Scalar.subi c1_i32_10 v8
  let v21 : BitVec 32 := Scalar.addi v20 v19
  let c1024_i32_12 : BitVec 32 := 1024#32
  let v22 : BitVec 32 := Scalar.muli v21 c1024_i32_12
  let v495 : BitVec 32 := Scalar.addi v22 c0_i32_376
  let c0_i32_383 : BitVec 32 := 0#32
  ![v495.toNat, 0]
def k0_dev24 (d0 : Dev nD) : Nat :=
  let c0_i32_389 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_388 : BitVec 32 := 4#32
  let v507 : BitVec 32 := Scalar.muli v10 c4_i32_388
  let v508 : BitVec 32 := Scalar.addi c0_i32_389 v507
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_390 : BitVec 32 := 2#32
  let v509 : BitVec 32 := Scalar.muli v5 c2_i32_390
  let v510 : BitVec 32 := Scalar.addi v508 v509
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_391 : BitVec 32 := 1#32
  let v511 : BitVec 32 := Scalar.muli v8 c1_i32_391
  let v512 : BitVec 32 := Scalar.addi v510 v511
  v512.toNat
def k0_dev25 (d0 : Dev nD) : Nat :=
  let c0_i32_481 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_480 : BitVec 32 := 4#32
  let v606 : BitVec 32 := Scalar.muli v10 c4_i32_480
  let v607 : BitVec 32 := Scalar.addi c0_i32_481 v606
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_482 : BitVec 32 := 2#32
  let v608 : BitVec 32 := Scalar.muli v5 c2_i32_482
  let v609 : BitVec 32 := Scalar.addi v607 v608
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_483 : BitVec 32 := 1#32
  let v610 : BitVec 32 := Scalar.muli v8 c1_i32_483
  let v611 : BitVec 32 := Scalar.addi v609 v610
  v611.toNat
def k0_dev26 (d0 : Dev nD) : Nat :=
  let c0_i32_491 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_490 : BitVec 32 := 4#32
  let v619 : BitVec 32 := Scalar.muli v2 c4_i32_490
  let v620 : BitVec 32 := Scalar.addi c0_i32_491 v619
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_492 : BitVec 32 := 2#32
  let v621 : BitVec 32 := Scalar.muli v5 c2_i32_492
  let v622 : BitVec 32 := Scalar.addi v620 v621
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_493 : BitVec 32 := 1#32
  let v623 : BitVec 32 := Scalar.muli v11 c1_i32_493
  let v624 : BitVec 32 := Scalar.addi v622 v623
  v624.toNat
def k0_off4 (d0 : Dev nD) (c64_i32_497 : BitVec 32) : Fin 2 → Nat :=
  let c2_i32_8 : BitVec 32 := 2#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v15 : BitVec 32 := Scalar.subi c1_i32_7 v2
  let v16 : BitVec 32 := Scalar.muli c2_i32_8 v15
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.addi v16 v8
  let c1024_i32_9 : BitVec 32 := 1024#32
  let v18 : BitVec 32 := Scalar.muli v17 c1024_i32_9
  let v632 : BitVec 32 := Scalar.addi v18 c64_i32_497
  let c0_i32_504 : BitVec 32 := 0#32
  ![v632.toNat, 0]
def k0_dev27 (d0 : Dev nD) : Nat :=
  let c0_i32_510 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_509 : BitVec 32 := 4#32
  let v644 : BitVec 32 := Scalar.muli v2 c4_i32_509
  let v645 : BitVec 32 := Scalar.addi c0_i32_510 v644
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_511 : BitVec 32 := 2#32
  let v646 : BitVec 32 := Scalar.muli v5 c2_i32_511
  let v647 : BitVec 32 := Scalar.addi v645 v646
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_512 : BitVec 32 := 1#32
  let v648 : BitVec 32 := Scalar.muli v11 c1_i32_512
  let v649 : BitVec 32 := Scalar.addi v647 v648
  v649.toNat
def k0_dev28 (d0 : Dev nD) : Nat :=
  let c0_i32_602 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_601 : BitVec 32 := 4#32
  let v743 : BitVec 32 := Scalar.muli v10 c4_i32_601
  let v744 : BitVec 32 := Scalar.addi c0_i32_602 v743
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_603 : BitVec 32 := 2#32
  let v745 : BitVec 32 := Scalar.muli v5 c2_i32_603
  let v746 : BitVec 32 := Scalar.addi v744 v745
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_604 : BitVec 32 := 1#32
  let v747 : BitVec 32 := Scalar.muli v8 c1_i32_604
  let v748 : BitVec 32 := Scalar.addi v746 v747
  v748.toNat
def k0_dev29 (d0 : Dev nD) : Nat :=
  let c0_i32_612 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_611 : BitVec 32 := 4#32
  let v756 : BitVec 32 := Scalar.muli v2 c4_i32_611
  let v757 : BitVec 32 := Scalar.addi c0_i32_612 v756
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_613 : BitVec 32 := 2#32
  let v758 : BitVec 32 := Scalar.muli v5 c2_i32_613
  let v759 : BitVec 32 := Scalar.addi v757 v758
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_614 : BitVec 32 := 1#32
  let v760 : BitVec 32 := Scalar.muli v11 c1_i32_614
  let v761 : BitVec 32 := Scalar.addi v759 v760
  v761.toNat
def k0_dev30 (d0 : Dev nD) : Nat :=
  let c0_i32_631 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_630 : BitVec 32 := 4#32
  let v781 : BitVec 32 := Scalar.muli v10 c4_i32_630
  let v782 : BitVec 32 := Scalar.addi c0_i32_631 v781
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_632 : BitVec 32 := 2#32
  let v783 : BitVec 32 := Scalar.muli v5 c2_i32_632
  let v784 : BitVec 32 := Scalar.addi v782 v783
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_633 : BitVec 32 := 1#32
  let v785 : BitVec 32 := Scalar.muli v8 c1_i32_633
  let v786 : BitVec 32 := Scalar.addi v784 v785
  v786.toNat
def k0_dev31 (d0 : Dev nD) : Nat :=
  let c0_i32_723 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_722 : BitVec 32 := 4#32
  let v880 : BitVec 32 := Scalar.muli v10 c4_i32_722
  let v881 : BitVec 32 := Scalar.addi c0_i32_723 v880
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_724 : BitVec 32 := 2#32
  let v882 : BitVec 32 := Scalar.muli v5 c2_i32_724
  let v883 : BitVec 32 := Scalar.addi v881 v882
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_725 : BitVec 32 := 1#32
  let v884 : BitVec 32 := Scalar.muli v8 c1_i32_725
  let v885 : BitVec 32 := Scalar.addi v883 v884
  v885.toNat
def k0_dev32 (d0 : Dev nD) : Nat :=
  let c0_i32_733 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_732 : BitVec 32 := 4#32
  let v893 : BitVec 32 := Scalar.muli v2 c4_i32_732
  let v894 : BitVec 32 := Scalar.addi c0_i32_733 v893
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_734 : BitVec 32 := 2#32
  let v895 : BitVec 32 := Scalar.muli v5 c2_i32_734
  let v896 : BitVec 32 := Scalar.addi v894 v895
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_735 : BitVec 32 := 1#32
  let v897 : BitVec 32 := Scalar.muli v11 c1_i32_735
  let v898 : BitVec 32 := Scalar.addi v896 v897
  v898.toNat
def k0_dev33 (d0 : Dev nD) : Nat :=
  let c0_i32_752 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_751 : BitVec 32 := 4#32
  let v918 : BitVec 32 := Scalar.muli v2 c4_i32_751
  let v919 : BitVec 32 := Scalar.addi c0_i32_752 v918
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_753 : BitVec 32 := 2#32
  let v920 : BitVec 32 := Scalar.muli v5 c2_i32_753
  let v921 : BitVec 32 := Scalar.addi v919 v920
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_754 : BitVec 32 := 1#32
  let v922 : BitVec 32 := Scalar.muli v11 c1_i32_754
  let v923 : BitVec 32 := Scalar.addi v921 v922
  v923.toNat
def k0_dev34 (d0 : Dev nD) : Nat :=
  let c0_i32_844 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_843 : BitVec 32 := 4#32
  let v1017 : BitVec 32 := Scalar.muli v10 c4_i32_843
  let v1018 : BitVec 32 := Scalar.addi c0_i32_844 v1017
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_845 : BitVec 32 := 2#32
  let v1019 : BitVec 32 := Scalar.muli v5 c2_i32_845
  let v1020 : BitVec 32 := Scalar.addi v1018 v1019
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_846 : BitVec 32 := 1#32
  let v1021 : BitVec 32 := Scalar.muli v8 c1_i32_846
  let v1022 : BitVec 32 := Scalar.addi v1020 v1021
  v1022.toNat
def k0_dev35 (d0 : Dev nD) : Nat :=
  let c0_i32_854 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_853 : BitVec 32 := 4#32
  let v1030 : BitVec 32 := Scalar.muli v2 c4_i32_853
  let v1031 : BitVec 32 := Scalar.addi c0_i32_854 v1030
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_855 : BitVec 32 := 2#32
  let v1032 : BitVec 32 := Scalar.muli v5 c2_i32_855
  let v1033 : BitVec 32 := Scalar.addi v1031 v1032
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_856 : BitVec 32 := 1#32
  let v1034 : BitVec 32 := Scalar.muli v11 c1_i32_856
  let v1035 : BitVec 32 := Scalar.addi v1033 v1034
  v1035.toNat
def k0_dev36 (d0 : Dev nD) : Nat :=
  let c0_i32_873 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_872 : BitVec 32 := 4#32
  let v1055 : BitVec 32 := Scalar.muli v10 c4_i32_872
  let v1056 : BitVec 32 := Scalar.addi c0_i32_873 v1055
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_874 : BitVec 32 := 2#32
  let v1057 : BitVec 32 := Scalar.muli v5 c2_i32_874
  let v1058 : BitVec 32 := Scalar.addi v1056 v1057
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_875 : BitVec 32 := 1#32
  let v1059 : BitVec 32 := Scalar.muli v8 c1_i32_875
  let v1060 : BitVec 32 := Scalar.addi v1058 v1059
  v1060.toNat
def k0_dev37 (d0 : Dev nD) : Nat :=
  let c0_i32_965 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_964 : BitVec 32 := 4#32
  let v1154 : BitVec 32 := Scalar.muli v10 c4_i32_964
  let v1155 : BitVec 32 := Scalar.addi c0_i32_965 v1154
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_966 : BitVec 32 := 2#32
  let v1156 : BitVec 32 := Scalar.muli v5 c2_i32_966
  let v1157 : BitVec 32 := Scalar.addi v1155 v1156
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_967 : BitVec 32 := 1#32
  let v1158 : BitVec 32 := Scalar.muli v8 c1_i32_967
  let v1159 : BitVec 32 := Scalar.addi v1157 v1158
  v1159.toNat
def k0_dev38 (d0 : Dev nD) : Nat :=
  let c0_i32_975 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_974 : BitVec 32 := 4#32
  let v1167 : BitVec 32 := Scalar.muli v2 c4_i32_974
  let v1168 : BitVec 32 := Scalar.addi c0_i32_975 v1167
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_976 : BitVec 32 := 2#32
  let v1169 : BitVec 32 := Scalar.muli v5 c2_i32_976
  let v1170 : BitVec 32 := Scalar.addi v1168 v1169
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_977 : BitVec 32 := 1#32
  let v1171 : BitVec 32 := Scalar.muli v11 c1_i32_977
  let v1172 : BitVec 32 := Scalar.addi v1170 v1171
  v1172.toNat
def k0_dev39 (d0 : Dev nD) : Nat :=
  let c0_i32_994 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_993 : BitVec 32 := 4#32
  let v1192 : BitVec 32 := Scalar.muli v2 c4_i32_993
  let v1193 : BitVec 32 := Scalar.addi c0_i32_994 v1192
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_995 : BitVec 32 := 2#32
  let v1194 : BitVec 32 := Scalar.muli v5 c2_i32_995
  let v1195 : BitVec 32 := Scalar.addi v1193 v1194
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_996 : BitVec 32 := 1#32
  let v1196 : BitVec 32 := Scalar.muli v11 c1_i32_996
  let v1197 : BitVec 32 := Scalar.addi v1195 v1196
  v1197.toNat
def k0_dev40 (d0 : Dev nD) : Nat :=
  let c0_i32_1086 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_1085 : BitVec 32 := 4#32
  let v1291 : BitVec 32 := Scalar.muli v10 c4_i32_1085
  let v1292 : BitVec 32 := Scalar.addi c0_i32_1086 v1291
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1087 : BitVec 32 := 2#32
  let v1293 : BitVec 32 := Scalar.muli v5 c2_i32_1087
  let v1294 : BitVec 32 := Scalar.addi v1292 v1293
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1088 : BitVec 32 := 1#32
  let v1295 : BitVec 32 := Scalar.muli v8 c1_i32_1088
  let v1296 : BitVec 32 := Scalar.addi v1294 v1295
  v1296.toNat
def k0_dev41 (d0 : Dev nD) : Nat :=
  let c0_i32_1096 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1095 : BitVec 32 := 4#32
  let v1304 : BitVec 32 := Scalar.muli v2 c4_i32_1095
  let v1305 : BitVec 32 := Scalar.addi c0_i32_1096 v1304
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1097 : BitVec 32 := 2#32
  let v1306 : BitVec 32 := Scalar.muli v5 c2_i32_1097
  let v1307 : BitVec 32 := Scalar.addi v1305 v1306
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1098 : BitVec 32 := 1#32
  let v1308 : BitVec 32 := Scalar.muli v11 c1_i32_1098
  let v1309 : BitVec 32 := Scalar.addi v1307 v1308
  v1309.toNat
def k0_dev42 (d0 : Dev nD) : Nat :=
  let c0_i32_1115 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_1114 : BitVec 32 := 4#32
  let v1329 : BitVec 32 := Scalar.muli v10 c4_i32_1114
  let v1330 : BitVec 32 := Scalar.addi c0_i32_1115 v1329
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1116 : BitVec 32 := 2#32
  let v1331 : BitVec 32 := Scalar.muli v5 c2_i32_1116
  let v1332 : BitVec 32 := Scalar.addi v1330 v1331
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1117 : BitVec 32 := 1#32
  let v1333 : BitVec 32 := Scalar.muli v8 c1_i32_1117
  let v1334 : BitVec 32 := Scalar.addi v1332 v1333
  v1334.toNat
def k0_dev43 (d0 : Dev nD) : Nat :=
  let c0_i32_1207 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_1206 : BitVec 32 := 4#32
  let v1428 : BitVec 32 := Scalar.muli v10 c4_i32_1206
  let v1429 : BitVec 32 := Scalar.addi c0_i32_1207 v1428
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1208 : BitVec 32 := 2#32
  let v1430 : BitVec 32 := Scalar.muli v5 c2_i32_1208
  let v1431 : BitVec 32 := Scalar.addi v1429 v1430
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1209 : BitVec 32 := 1#32
  let v1432 : BitVec 32 := Scalar.muli v8 c1_i32_1209
  let v1433 : BitVec 32 := Scalar.addi v1431 v1432
  v1433.toNat
def k0_dev44 (d0 : Dev nD) : Nat :=
  let c0_i32_1217 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1216 : BitVec 32 := 4#32
  let v1441 : BitVec 32 := Scalar.muli v2 c4_i32_1216
  let v1442 : BitVec 32 := Scalar.addi c0_i32_1217 v1441
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1218 : BitVec 32 := 2#32
  let v1443 : BitVec 32 := Scalar.muli v5 c2_i32_1218
  let v1444 : BitVec 32 := Scalar.addi v1442 v1443
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1219 : BitVec 32 := 1#32
  let v1445 : BitVec 32 := Scalar.muli v11 c1_i32_1219
  let v1446 : BitVec 32 := Scalar.addi v1444 v1445
  v1446.toNat
def k0_dev45 (d0 : Dev nD) : Nat :=
  let c0_i32_1236 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1235 : BitVec 32 := 4#32
  let v1466 : BitVec 32 := Scalar.muli v2 c4_i32_1235
  let v1467 : BitVec 32 := Scalar.addi c0_i32_1236 v1466
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1237 : BitVec 32 := 2#32
  let v1468 : BitVec 32 := Scalar.muli v5 c2_i32_1237
  let v1469 : BitVec 32 := Scalar.addi v1467 v1468
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1238 : BitVec 32 := 1#32
  let v1470 : BitVec 32 := Scalar.muli v11 c1_i32_1238
  let v1471 : BitVec 32 := Scalar.addi v1469 v1470
  v1471.toNat
def k0_dev46 (d0 : Dev nD) : Nat :=
  let c0_i32_1328 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_1327 : BitVec 32 := 4#32
  let v1565 : BitVec 32 := Scalar.muli v10 c4_i32_1327
  let v1566 : BitVec 32 := Scalar.addi c0_i32_1328 v1565
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1329 : BitVec 32 := 2#32
  let v1567 : BitVec 32 := Scalar.muli v5 c2_i32_1329
  let v1568 : BitVec 32 := Scalar.addi v1566 v1567
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1330 : BitVec 32 := 1#32
  let v1569 : BitVec 32 := Scalar.muli v8 c1_i32_1330
  let v1570 : BitVec 32 := Scalar.addi v1568 v1569
  v1570.toNat
def k0_dev47 (d0 : Dev nD) : Nat :=
  let c0_i32_1338 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1337 : BitVec 32 := 4#32
  let v1578 : BitVec 32 := Scalar.muli v2 c4_i32_1337
  let v1579 : BitVec 32 := Scalar.addi c0_i32_1338 v1578
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1339 : BitVec 32 := 2#32
  let v1580 : BitVec 32 := Scalar.muli v5 c2_i32_1339
  let v1581 : BitVec 32 := Scalar.addi v1579 v1580
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1340 : BitVec 32 := 1#32
  let v1582 : BitVec 32 := Scalar.muli v11 c1_i32_1340
  let v1583 : BitVec 32 := Scalar.addi v1581 v1582
  v1583.toNat
def k0_dev48 (d0 : Dev nD) : Nat :=
  let c0_i32_1357 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_1356 : BitVec 32 := 4#32
  let v1603 : BitVec 32 := Scalar.muli v10 c4_i32_1356
  let v1604 : BitVec 32 := Scalar.addi c0_i32_1357 v1603
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1358 : BitVec 32 := 2#32
  let v1605 : BitVec 32 := Scalar.muli v5 c2_i32_1358
  let v1606 : BitVec 32 := Scalar.addi v1604 v1605
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1359 : BitVec 32 := 1#32
  let v1607 : BitVec 32 := Scalar.muli v8 c1_i32_1359
  let v1608 : BitVec 32 := Scalar.addi v1606 v1607
  v1608.toNat
def k0_dev49 (d0 : Dev nD) : Nat :=
  let c0_i32_1449 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_1448 : BitVec 32 := 4#32
  let v1702 : BitVec 32 := Scalar.muli v10 c4_i32_1448
  let v1703 : BitVec 32 := Scalar.addi c0_i32_1449 v1702
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1450 : BitVec 32 := 2#32
  let v1704 : BitVec 32 := Scalar.muli v5 c2_i32_1450
  let v1705 : BitVec 32 := Scalar.addi v1703 v1704
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1451 : BitVec 32 := 1#32
  let v1706 : BitVec 32 := Scalar.muli v8 c1_i32_1451
  let v1707 : BitVec 32 := Scalar.addi v1705 v1706
  v1707.toNat
def k0_dev50 (d0 : Dev nD) : Nat :=
  let c0_i32_1459 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1458 : BitVec 32 := 4#32
  let v1715 : BitVec 32 := Scalar.muli v2 c4_i32_1458
  let v1716 : BitVec 32 := Scalar.addi c0_i32_1459 v1715
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1460 : BitVec 32 := 2#32
  let v1717 : BitVec 32 := Scalar.muli v5 c2_i32_1460
  let v1718 : BitVec 32 := Scalar.addi v1716 v1717
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1461 : BitVec 32 := 1#32
  let v1719 : BitVec 32 := Scalar.muli v11 c1_i32_1461
  let v1720 : BitVec 32 := Scalar.addi v1718 v1719
  v1720.toNat
def k0_dev51 (d0 : Dev nD) : Nat :=
  let c0_i32_1478 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1477 : BitVec 32 := 4#32
  let v1740 : BitVec 32 := Scalar.muli v2 c4_i32_1477
  let v1741 : BitVec 32 := Scalar.addi c0_i32_1478 v1740
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1479 : BitVec 32 := 2#32
  let v1742 : BitVec 32 := Scalar.muli v5 c2_i32_1479
  let v1743 : BitVec 32 := Scalar.addi v1741 v1742
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1480 : BitVec 32 := 1#32
  let v1744 : BitVec 32 := Scalar.muli v11 c1_i32_1480
  let v1745 : BitVec 32 := Scalar.addi v1743 v1744
  v1745.toNat
def k0_dev52 (d0 : Dev nD) : Nat :=
  let c0_i32_1570 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_1569 : BitVec 32 := 4#32
  let v1839 : BitVec 32 := Scalar.muli v10 c4_i32_1569
  let v1840 : BitVec 32 := Scalar.addi c0_i32_1570 v1839
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1571 : BitVec 32 := 2#32
  let v1841 : BitVec 32 := Scalar.muli v5 c2_i32_1571
  let v1842 : BitVec 32 := Scalar.addi v1840 v1841
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1572 : BitVec 32 := 1#32
  let v1843 : BitVec 32 := Scalar.muli v8 c1_i32_1572
  let v1844 : BitVec 32 := Scalar.addi v1842 v1843
  v1844.toNat
def k0_dev53 (d0 : Dev nD) : Nat :=
  let c0_i32_1580 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1579 : BitVec 32 := 4#32
  let v1852 : BitVec 32 := Scalar.muli v2 c4_i32_1579
  let v1853 : BitVec 32 := Scalar.addi c0_i32_1580 v1852
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1581 : BitVec 32 := 2#32
  let v1854 : BitVec 32 := Scalar.muli v5 c2_i32_1581
  let v1855 : BitVec 32 := Scalar.addi v1853 v1854
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1582 : BitVec 32 := 1#32
  let v1856 : BitVec 32 := Scalar.muli v11 c1_i32_1582
  let v1857 : BitVec 32 := Scalar.addi v1855 v1856
  v1857.toNat
def k0_dev54 (d0 : Dev nD) : Nat :=
  let c0_i32_1599 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_1598 : BitVec 32 := 4#32
  let v1877 : BitVec 32 := Scalar.muli v10 c4_i32_1598
  let v1878 : BitVec 32 := Scalar.addi c0_i32_1599 v1877
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1600 : BitVec 32 := 2#32
  let v1879 : BitVec 32 := Scalar.muli v5 c2_i32_1600
  let v1880 : BitVec 32 := Scalar.addi v1878 v1879
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1601 : BitVec 32 := 1#32
  let v1881 : BitVec 32 := Scalar.muli v8 c1_i32_1601
  let v1882 : BitVec 32 := Scalar.addi v1880 v1881
  v1882.toNat
def k0_dev55 (d0 : Dev nD) : Nat :=
  let c0_i32_1691 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_1690 : BitVec 32 := 4#32
  let v1976 : BitVec 32 := Scalar.muli v10 c4_i32_1690
  let v1977 : BitVec 32 := Scalar.addi c0_i32_1691 v1976
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1692 : BitVec 32 := 2#32
  let v1978 : BitVec 32 := Scalar.muli v5 c2_i32_1692
  let v1979 : BitVec 32 := Scalar.addi v1977 v1978
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1693 : BitVec 32 := 1#32
  let v1980 : BitVec 32 := Scalar.muli v8 c1_i32_1693
  let v1981 : BitVec 32 := Scalar.addi v1979 v1980
  v1981.toNat
def k0_dev56 (d0 : Dev nD) : Nat :=
  let c0_i32_1701 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1700 : BitVec 32 := 4#32
  let v1989 : BitVec 32 := Scalar.muli v2 c4_i32_1700
  let v1990 : BitVec 32 := Scalar.addi c0_i32_1701 v1989
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1702 : BitVec 32 := 2#32
  let v1991 : BitVec 32 := Scalar.muli v5 c2_i32_1702
  let v1992 : BitVec 32 := Scalar.addi v1990 v1991
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1703 : BitVec 32 := 1#32
  let v1993 : BitVec 32 := Scalar.muli v11 c1_i32_1703
  let v1994 : BitVec 32 := Scalar.addi v1992 v1993
  v1994.toNat
def k0_dev57 (d0 : Dev nD) : Nat :=
  let c0_i32_1720 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1719 : BitVec 32 := 4#32
  let v2014 : BitVec 32 := Scalar.muli v2 c4_i32_1719
  let v2015 : BitVec 32 := Scalar.addi c0_i32_1720 v2014
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1721 : BitVec 32 := 2#32
  let v2016 : BitVec 32 := Scalar.muli v5 c2_i32_1721
  let v2017 : BitVec 32 := Scalar.addi v2015 v2016
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1722 : BitVec 32 := 1#32
  let v2018 : BitVec 32 := Scalar.muli v11 c1_i32_1722
  let v2019 : BitVec 32 := Scalar.addi v2017 v2018
  v2019.toNat
def k0_dev58 (d0 : Dev nD) : Nat :=
  let c0_i32_1812 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_1811 : BitVec 32 := 4#32
  let v2113 : BitVec 32 := Scalar.muli v10 c4_i32_1811
  let v2114 : BitVec 32 := Scalar.addi c0_i32_1812 v2113
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1813 : BitVec 32 := 2#32
  let v2115 : BitVec 32 := Scalar.muli v5 c2_i32_1813
  let v2116 : BitVec 32 := Scalar.addi v2114 v2115
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1814 : BitVec 32 := 1#32
  let v2117 : BitVec 32 := Scalar.muli v8 c1_i32_1814
  let v2118 : BitVec 32 := Scalar.addi v2116 v2117
  v2118.toNat
def k0_dev59 (d0 : Dev nD) : Nat :=
  let c0_i32_1822 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1821 : BitVec 32 := 4#32
  let v2126 : BitVec 32 := Scalar.muli v2 c4_i32_1821
  let v2127 : BitVec 32 := Scalar.addi c0_i32_1822 v2126
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1823 : BitVec 32 := 2#32
  let v2128 : BitVec 32 := Scalar.muli v5 c2_i32_1823
  let v2129 : BitVec 32 := Scalar.addi v2127 v2128
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1824 : BitVec 32 := 1#32
  let v2130 : BitVec 32 := Scalar.muli v11 c1_i32_1824
  let v2131 : BitVec 32 := Scalar.addi v2129 v2130
  v2131.toNat
def k0_dev60 (d0 : Dev nD) : Nat :=
  let c0_i32_1841 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_1840 : BitVec 32 := 4#32
  let v2151 : BitVec 32 := Scalar.muli v10 c4_i32_1840
  let v2152 : BitVec 32 := Scalar.addi c0_i32_1841 v2151
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1842 : BitVec 32 := 2#32
  let v2153 : BitVec 32 := Scalar.muli v5 c2_i32_1842
  let v2154 : BitVec 32 := Scalar.addi v2152 v2153
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1843 : BitVec 32 := 1#32
  let v2155 : BitVec 32 := Scalar.muli v8 c1_i32_1843
  let v2156 : BitVec 32 := Scalar.addi v2154 v2155
  v2156.toNat
def k0_dev61 (d0 : Dev nD) : Nat :=
  let c0_i32_1933 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_1932 : BitVec 32 := 4#32
  let v2250 : BitVec 32 := Scalar.muli v10 c4_i32_1932
  let v2251 : BitVec 32 := Scalar.addi c0_i32_1933 v2250
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1934 : BitVec 32 := 2#32
  let v2252 : BitVec 32 := Scalar.muli v5 c2_i32_1934
  let v2253 : BitVec 32 := Scalar.addi v2251 v2252
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1935 : BitVec 32 := 1#32
  let v2254 : BitVec 32 := Scalar.muli v8 c1_i32_1935
  let v2255 : BitVec 32 := Scalar.addi v2253 v2254
  v2255.toNat
def k0_dev62 (d0 : Dev nD) : Nat :=
  let c0_i32_1943 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1942 : BitVec 32 := 4#32
  let v2263 : BitVec 32 := Scalar.muli v2 c4_i32_1942
  let v2264 : BitVec 32 := Scalar.addi c0_i32_1943 v2263
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1944 : BitVec 32 := 2#32
  let v2265 : BitVec 32 := Scalar.muli v5 c2_i32_1944
  let v2266 : BitVec 32 := Scalar.addi v2264 v2265
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1945 : BitVec 32 := 1#32
  let v2267 : BitVec 32 := Scalar.muli v11 c1_i32_1945
  let v2268 : BitVec 32 := Scalar.addi v2266 v2267
  v2268.toNat
def k0_dev63 (d0 : Dev nD) : Nat :=
  let c0_i32_1962 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1961 : BitVec 32 := 4#32
  let v2288 : BitVec 32 := Scalar.muli v2 c4_i32_1961
  let v2289 : BitVec 32 := Scalar.addi c0_i32_1962 v2288
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1963 : BitVec 32 := 2#32
  let v2290 : BitVec 32 := Scalar.muli v5 c2_i32_1963
  let v2291 : BitVec 32 := Scalar.addi v2289 v2290
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1964 : BitVec 32 := 1#32
  let v2292 : BitVec 32 := Scalar.muli v11 c1_i32_1964
  let v2293 : BitVec 32 := Scalar.addi v2291 v2292
  v2293.toNat
def k0_dev64 (d0 : Dev nD) : Nat :=
  let c0_i32_2042 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_2041 : BitVec 32 := 4#32
  let v2375 : BitVec 32 := Scalar.muli v10 c4_i32_2041
  let v2376 : BitVec 32 := Scalar.addi c0_i32_2042 v2375
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_2043 : BitVec 32 := 2#32
  let v2377 : BitVec 32 := Scalar.muli v5 c2_i32_2043
  let v2378 : BitVec 32 := Scalar.addi v2376 v2377
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_2044 : BitVec 32 := 1#32
  let v2379 : BitVec 32 := Scalar.muli v8 c1_i32_2044
  let v2380 : BitVec 32 := Scalar.addi v2378 v2379
  v2380.toNat
def k0_dev65 (d0 : Dev nD) : Nat :=
  let c0_i32_2052 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_2051 : BitVec 32 := 4#32
  let v2388 : BitVec 32 := Scalar.muli v2 c4_i32_2051
  let v2389 : BitVec 32 := Scalar.addi c0_i32_2052 v2388
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_2053 : BitVec 32 := 2#32
  let v2390 : BitVec 32 := Scalar.muli v5 c2_i32_2053
  let v2391 : BitVec 32 := Scalar.addi v2389 v2390
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_2054 : BitVec 32 := 1#32
  let v2392 : BitVec 32 := Scalar.muli v11 c1_i32_2054
  let v2393 : BitVec 32 := Scalar.addi v2391 v2392
  v2393.toNat
def k0_dev66 (d0 : Dev nD) : Nat :=
  let c0_i32_2071 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_2070 : BitVec 32 := 4#32
  let v2413 : BitVec 32 := Scalar.muli v10 c4_i32_2070
  let v2414 : BitVec 32 := Scalar.addi c0_i32_2071 v2413
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_2072 : BitVec 32 := 2#32
  let v2415 : BitVec 32 := Scalar.muli v5 c2_i32_2072
  let v2416 : BitVec 32 := Scalar.addi v2414 v2415
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_2073 : BitVec 32 := 1#32
  let v2417 : BitVec 32 := Scalar.muli v8 c1_i32_2073
  let v2418 : BitVec 32 := Scalar.addi v2416 v2417
  v2418.toNat
def k0_dev67 (d0 : Dev nD) : Nat :=
  let c0_i32_2089 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_2088 : BitVec 32 := 4#32
  let v2437 : BitVec 32 := Scalar.muli v2 c4_i32_2088
  let v2438 : BitVec 32 := Scalar.addi c0_i32_2089 v2437
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_2090 : BitVec 32 := 2#32
  let v2439 : BitVec 32 := Scalar.muli v5 c2_i32_2090
  let v2440 : BitVec 32 := Scalar.addi v2438 v2439
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_2091 : BitVec 32 := 1#32
  let v2441 : BitVec 32 := Scalar.muli v11 c1_i32_2091
  let v2442 : BitVec 32 := Scalar.addi v2440 v2441
  v2442.toNat
def k0_off5 (d0 : Dev nD) (c0_i32_2141 : BitVec 32) : Fin 2 → Nat :=
  let c2_i32_15 : BitVec 32 := 2#32
  let c1_i32_13 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v23 : BitVec 32 := Scalar.subi c1_i32_13 v2
  let v25 : BitVec 32 := Scalar.muli c2_i32_15 v23
  let c1_i32_14 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v24 : BitVec 32 := Scalar.subi c1_i32_14 v8
  let v26 : BitVec 32 := Scalar.addi v25 v24
  let c1024_i32_16 : BitVec 32 := 1024#32
  let v27 : BitVec 32 := Scalar.muli v26 c1024_i32_16
  let v2490 : BitVec 32 := Scalar.addi v27 c0_i32_2141
  let c0_i32_2148 : BitVec 32 := 0#32
  ![v2490.toNat, 0]
abbrev stage0_0 : Fin 1 → Memref sig .tc .vmem S1x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S2x4096x4096 : Shape := ⟨3, ![2, 4096, 4096]⟩
abbrev S4096x4096 : Shape := ⟨2, ![4096, 4096]⟩
abbrev S4096 : Shape := ⟨1, ![4096]⟩
abbrev S_ : Shape := ⟨0, ![]⟩
abbrev S4096x1 : Shape := ⟨2, ![4096, 1]⟩
abbrev S1x4096 : Shape := ⟨2, ![1, 4096]⟩

abbrev nBuf : Space → Nat
  | .hbm => 22
  | .vmem => 0
  | .smem => 0
  | _ => 0

abbrev bufTy : (tb : Table) → Fin (tcTables nBuf tb) → BufTy
  | .hbm, ⟨0, _⟩ => ⟨S2x4096x4096, .f32⟩
  | .hbm, ⟨1, _⟩ => ⟨S4096x4096, .f32⟩
  | .hbm, ⟨2, _⟩ => ⟨S4096, .f32⟩
  | .hbm, ⟨3, _⟩ => ⟨S_, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x4096, .f32⟩
  | .hbm, ⟨18, _⟩ => ⟨S4096x4096, .f32⟩
  | .hbm, ⟨19, _⟩ => ⟨S1x4096, .f32⟩
  | .hbm, ⟨20, _⟩ => ⟨S4096x4096, .f32⟩
  | .hbm, ⟨21, _⟩ => ⟨S4096x4096, .f32⟩
  | _, _ => ⟨S2x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Proof.ProgIdeal.lean ====
/-
The kernel's body, written once for every chunk.

The kernel works on its quarter of the rows in sixteen chunks of 64 rows. The printed body lists
every operation of every chunk one after the other; here the same operations are given as functions
of the chunk, and `body_eq` says that the printed body is their composition.

Devices are at (x, y, z) of a 2 × 2 × 2 mesh. A device's own quarter is the one numbered 2x + z.
-/
module

public import proofs.«01_k».proof.Proof.Gen.KernelIdeal
public import proofs.«01_k».proof.Proof.Gen.KernelIdeal.Skeleton

@[expose] public section

noncomputable section

namespace Cert.KernelIdeal.Talk

open Cert.KernelIdeal Cert.KernelIdeal.Gen
open Idealize.ShloMosaic Idealize.SL.Sem

variable {F : FTy → Type} [FloatOps F]

/-- The neighbour across the y axis, as the kernel computes it. -/
def devY (d : Dev nD) : Dev nD := ⟨k0_dev4 d, k0_dev4_lt d⟩
/-- The neighbour across the x axis, as the kernel computes it. -/
def devX (d : Dev nD) : Dev nD := ⟨k0_dev20 d, k0_dev20_lt d⟩
/-- The neighbour across the z axis, as the kernel computes it. -/
def devZ (d : Dev nD) : Dev nD := ⟨k0_dev21 d, k0_dev21_lt d⟩

/-- A chunk's number of the parity that a staging slot is chosen by. -/
def slot (k : Fin 16) : Fin 2 := ⟨k.val % 2, Nat.mod_lt _ (by decide)⟩

/-- One semaphore of an array of sixteen. -/
theorem inb16 (k : Fin 16) : ∀ a, (![k.val] : Fin 1 → Nat) a + S1.size a ≤ S16.size a := by revert k; decide
/-- One semaphore of an array of two. -/
theorem inb2 (s : Fin 2) : ∀ a, (![s.val] : Fin 1 → Nat) a + S1.size a ≤ S2.size a := by revert s; decide
/-- One chunk's rows of the receive buffer. -/
theorem inbRecv (k : Fin 16) : ∀ a, (![k.val, 0, 0] : Fin 3 → Nat) a + S1x64x4096.size a ≤ S16x64x4096.size a := by revert k; decide
/-- One slot of a staging buffer. -/
theorem inbSlot (s : Fin 2) : ∀ a, (![s.val, 0, 0] : Fin 3 → Nat) a + S1x64x4096.size a ≤ S2x64x4096.size a := by revert s; decide

/-- The semaphore of chunk `k` in an array of sixteen. -/
abbrev sem16 (a : DmaSems sig S16) (k : Fin 16) : DmaSem sig :=
  ((a.slice (Rect.unit (s := S16) ![k.val] S1.size (inb16 k))).squeeze S_ squeezes_S1_S_).sem
/-- The semaphore of slot `s` in an array of two. -/
abbrev sem2 (a : DmaSems sig S2) (s : Fin 2) : DmaSem sig :=
  ((a.slice (Rect.unit (s := S2) ![s.val] S1.size (inb2 s))).squeeze S_ squeezes_S1_S_).sem

/-- Chunk `k` of the device's quarter of its partial block. -/
abbrev partM (d : Dev nD) (k : Fin 16) : Memref sig .tc .hbm S64x4096 .f32 :=
  ((Memref.whole main_arg0 : Memref sig .tc .hbm S1x4096x4096 .f32).slice
    (Rect.unit (s := S1x4096x4096) (k0_off1 d (BitVec.ofNat 32 (64 * k.val))) S1x64x4096.size (k0_off1_inb d k)) (fun _ => rfl)).squeeze
      S64x4096 squeezes_S1x64x4096_S64x4096
/-- Chunk `k` of the device's quarter of the residual. -/
abbrev residM (d : Dev nD) (k : Fin 16) : Memref sig .tc .hbm S64x4096 .f32 :=
  (Memref.whole main_arg1 : Memref sig .tc .hbm S4096x4096 .f32).slice
    (Rect.unit (s := S4096x4096) (k0_off2 d (BitVec.ofNat 32 (64 * k.val))) S64x4096.size (k0_off2_inb d k)) (fun _ => rfl)
/-- Chunk `k` of the device's own quarter of the result. -/
abbrev ownM (d : Dev nD) (k : Fin 16) : Memref sig .tc .hbm S64x4096 .f32 :=
  (Memref.whole main_v2 : Memref sig .tc .hbm S4096x4096 .f32).slice
    (Rect.unit (s := S4096x4096) (k0_off2 d (BitVec.ofNat 32 (64 * k.val))) S64x4096.size (k0_off2_inb d k)) (fun _ => rfl)
/-- Chunk `k` of the quarter of the neighbour across z. -/
abbrev zqM (d : Dev nD) (k : Fin 16) : Memref sig .tc .hbm S64x4096 .f32 :=
  (Memref.whole main_v2 : Memref sig .tc .hbm S4096x4096 .f32).slice
    (Rect.unit (s := S4096x4096) (k0_off3 d (BitVec.ofNat 32 (64 * k.val))) S64x4096.size (k0_off3_inb d k)) (fun _ => rfl)
/-- Chunk `k` of the quarter of the neighbour across x. -/
abbrev xqM (d : Dev nD) (k : Fin 16) : Memref sig .tc .hbm S64x4096 .f32 :=
  (Memref.whole main_v2 : Memref sig .tc .hbm S4096x4096 .f32).slice
    (Rect.unit (s := S4096x4096) (k0_off4 d (BitVec.ofNat 32 (64 * k.val))) S64x4096.size (k0_off4_inb d k)) (fun _ => rfl)
/-- Chunk `k` of the quarter across both. -/
abbrev dqM (d : Dev nD) (k : Fin 16) : Memref sig .tc .hbm S64x4096 .f32 :=
  (Memref.whole main_v2 : Memref sig .tc .hbm S4096x4096 .f32).slice
    (Rect.unit (s := S4096x4096) (k0_off5 d (BitVec.ofNat 32 (64 * k.val))) S64x4096.size (k0_off5_inb d k)) (fun _ => rfl)

/-- The rows of the receive buffer for chunk `k`. -/
abbrev recvR (k : Fin 16) : Rect S16x64x4096 := Rect.unit (s := S16x64x4096) ![k.val, 0, 0] S1x64x4096.size (inbRecv k)
/-- A slot of a staging buffer. -/
abbrev slotR (s : Fin 2) : Rect S2x64x4096 := Rect.unit (s := S2x64x4096) ![s.val, 0, 0] S1x64x4096.size (inbSlot s)

/-- The receive buffer's chunk `k`, as a copy addresses it. -/
abbrev recvM (k : Fin 16) : Memref sig .tc .vmem S64x4096 .f32 :=
  ((Memref.whole cc0_scratch0 : Memref sig .tc .vmem S16x64x4096 .f32).slice (recvR k) (fun _ => rfl)).squeeze S64x4096 squeezes_S1x64x4096_S64x4096
/-- The slot for the device's own partial rows. -/
abbrev inM (s : Fin 2) : Memref sig .tc .vmem S64x4096 .f32 :=
  ((Memref.whole cc0_scratch1 : Memref sig .tc .vmem S2x64x4096 .f32).slice (slotR s) (fun _ => rfl)).squeeze S64x4096 squeezes_S1x64x4096_S64x4096
/-- The slot for the residual's rows. -/
abbrev resM (s : Fin 2) : Memref sig .tc .vmem S64x4096 .f32 :=
  ((Memref.whole cc0_scratch2 : Memref sig .tc .vmem S2x64x4096 .f32).slice (slotR s) (fun _ => rfl)).squeeze S64x4096 squeezes_S1x64x4096_S64x4096
/-- The slot for the finished rows. -/
abbrev outM (s : Fin 2) : Memref sig .tc .vmem S64x4096 .f32 :=
  ((Memref.whole cc0_scratch3 : Memref sig .tc .vmem S2x64x4096 .f32).slice (slotR s) (fun _ => rfl)).squeeze S64x4096 squeezes_S1x64x4096_S64x4096

/-- The arithmetic of a chunk: the rows added up, then each divided by its root mean square and scaled. -/
def rowsOf (own peer res : Vec F S1x64x4096 .f32) (g : Vec F S1x4096 .f32) : FVec F S1x64x4096 .f32 :=
  k0_pay2 (k0_pay1 own) peer res g

/-- Programs of the kernel. -/
abbrev KProg (F : FTy → Type) : Type _ := Prog (TpuEff nD τ sig (Elt F) Λ₀ .tc) PUnit

/-- Send chunk `k` of the partial rows to the neighbour across y. -/
def ySend (d : Dev nD) (k : Fin 16) (K : KProg F) : KProg F :=
  .op (.enqueueDma (partM d k) (.remote (Dev.tc (devY d)) (recvM k) (.dma (sem16 cc0_scratch4 k))) (.dma (sem16 cc0_scratch5 k))
    ((View.wordExact_bits rfl).reshape _ _) ((View.wordExact_bits rfl).reshape _ _) ⟨⟨rfl, Or.inl rfl⟩, trivial⟩) fun _ => K

/-- Fetch chunk `k` of the partial rows and of the residual into their slots. -/
def fetch (d : Dev nD) (k : Fin 16) (K : KProg F) : KProg F :=
  .op (.enqueueDma (partM d k) (.here (inM (slot k))) (.dma (sem2 cc0_scratch12 (slot k)))
    ((View.wordExact_bits rfl).reshape _ _) ((View.wordExact_bits rfl).reshape _ _) ⟨Or.inl rfl, trivial⟩) fun _ =>
  .op (.enqueueDma (residM d k) (.here (resM (slot k))) (.dma (sem2 cc0_scratch13 (slot k)))
    (View.wordExact_bits rfl) ((View.wordExact_bits rfl).reshape _ _) ⟨Or.inl rfl, trivial⟩) fun _ => K

/-- Wait for chunk `k` to be fetched. -/
def fetched (d : Dev nD) (k : Fin 16) (K : KProg F) : KProg F :=
  .op (.waitDma2 (sem2 cc0_scratch12 (slot k)) (partM d k) (inM (slot k))
    ((View.wordExact_bits rfl).reshape _ _) ((View.wordExact_bits rfl).reshape _ _)) fun _ =>
  .op (.waitDma2 (sem2 cc0_scratch13 (slot k)) (residM d k) (resM (slot k))
    (View.wordExact_bits rfl) ((View.wordExact_bits rfl).reshape _ _)) fun _ => K

/-- Wait for the neighbour's chunk `k`, and for the own one to be sent. -/
def exchanged (d : Dev nD) (k : Fin 16) (K : KProg F) : KProg F :=
  .op (.waitDma2 (sem16 cc0_scratch5 k) (partM d k) (recvM k)
    ((View.wordExact_bits rfl).reshape _ _) ((View.wordExact_bits rfl).reshape _ _)) fun _ =>
  .op (.waitDma2 (sem16 cc0_scratch4 k) (recvM k) (partM d k)
    ((View.wordExact_bits rfl).reshape _ _) ((View.wordExact_bits rfl).reshape _ _)) fun _ => K

/-- Wait for the three copies of chunk `k`'s finished rows to be read. -/
def drained (d : Dev nD) (k : Fin 16) (K : KProg F) : KProg F :=
  .op (.waitDma2 (sem16 cc0_scratch6 k) (ownM d k) (outM (slot k))
    (View.wordExact_bits rfl) ((View.wordExact_bits rfl).reshape _ _)) fun _ =>
  .op (.waitDma2 (sem16 cc0_scratch7 k) (ownM d k) (outM (slot k))
    (View.wordExact_bits rfl) ((View.wordExact_bits rfl).reshape _ _)) fun _ =>
  .op (.waitDma2 (sem2 cc0_scratch14 (slot k)) (outM (slot k)) (ownM d k)
    ((View.wordExact_bits rfl).reshape _ _) (View.wordExact_bits rfl)) fun _ => K

/-- Compute chunk `k`'s finished rows. -/
def compute (k : Fin 16) (K : KProg F) : KProg F :=
  .op (.load (Memref.whole cc0_scratch1 : Memref sig .tc .vmem S2x64x4096 .f32) (slotR (slot k)).toLoadRect (View.loadsAt_vmem h_S1x64x4096)) fun own =>
  .op (.load (Memref.whole cc0_scratch0 : Memref sig .tc .vmem S16x64x4096 .f32) (recvR k).toLoadRect (View.loadsAt_vmem h_S1x64x4096)) fun peer =>
  .op (.load (Memref.whole cc0_scratch2 : Memref sig .tc .vmem S2x64x4096 .f32) (slotR (slot k)).toLoadRect (View.loadsAt_vmem h_S1x64x4096)) fun res =>
  .op (.load (stage0_0 0) (Rect.unit (s := S1x4096) ![0, 0] S1x4096.size inb_S1x4096_S1x4096_0_0).toLoadRect (View.loadsAt_vmem h_S1x4096)) fun g =>
  .op (.load (Memref.whole cc0_scratch3 : Memref sig .tc .vmem S2x64x4096 .f32) (slotR (slot k)).toLoadRect (View.loadsAt_vmem h_S1x64x4096)) fun _ =>
  .op (.store (Memref.whole cc0_scratch3 : Memref sig .tc .vmem S2x64x4096 .f32) (slotR (slot k)) (rowsOf own peer res g) Finset.univ
    (View.stores_vmem_bits_univ h_S1x64x4096 rfl) (.inl rfl)) fun _ => K

/-- Store chunk `k`'s finished rows here and on the neighbours across x and z. -/
def spread (d : Dev nD) (k : Fin 16) (K : KProg F) : KProg F :=
  .op (.enqueueDma (outM (slot k)) (.here (ownM d k)) (.dma (sem2 cc0_scratch14 (slot k)))
    ((View.wordExact_bits rfl).reshape _ _) (View.wordExact_bits rfl) ⟨Or.inl rfl, trivial⟩) fun _ =>
  .op (.enqueueDma (outM (slot k)) (.remote (Dev.tc (devX d)) (ownM d k) (.dma (sem16 cc0_scratch6 k))) (.dma (sem16 cc0_scratch8 k))
    ((View.wordExact_bits rfl).reshape _ _) (View.wordExact_bits rfl) ⟨⟨rfl, Or.inl rfl⟩, trivial⟩) fun _ =>
  .op (.enqueueDma (outM (slot k)) (.remote (Dev.tc (devZ d)) (ownM d k) (.dma (sem16 cc0_scratch7 k))) (.dma (sem16 cc0_scratch9 k))
    ((View.wordExact_bits rfl).reshape _ _) (View.wordExact_bits rfl) ⟨⟨rfl, Or.inl rfl⟩, trivial⟩) fun _ => K

/-- Wait for the neighbour across z to have stored its chunk `k` here. -/
def gotZ (d : Dev nD) (k : Fin 16) (K : KProg F) : KProg F :=
  .op (.waitDma2 (sem16 cc0_scratch9 k) (zqM d k) (zqM d k) (View.wordExact_bits rfl) (View.wordExact_bits rfl)) fun _ => K
/-- Wait for the neighbour across x to have stored its chunk `k` here. -/
def gotX (d : Dev nD) (k : Fin 16) (K : KProg F) : KProg F :=
  .op (.waitDma2 (sem16 cc0_scratch8 k) (xqM d k) (xqM d k) (View.wordExact_bits rfl) (View.wordExact_bits rfl)) fun _ => K
/-- Wait for chunk `k` of the quarter across both to have been stored here. -/
def gotD (d : Dev nD) (k : Fin 16) (K : KProg F) : KProg F :=
  .op (.waitDma2 (sem16 cc0_scratch11 k) (dqM d k) (dqM d k) (View.wordExact_bits rfl) (View.wordExact_bits rfl)) fun _ => K

/-- Pass on an even chunk: what came across z goes across x. -/
def passX (d : Dev nD) (k : Fin 16) (K : KProg F) : KProg F :=
  gotZ d k <| .op (.enqueueDma (zqM d k) (.remote (Dev.tc (devX d)) (zqM d k) (.dma (sem16 cc0_scratch10 k))) (.dma (sem16 cc0_scratch11 k))
    (View.wordExact_bits rfl) (View.wordExact_bits rfl) ⟨⟨rfl, Or.inl rfl⟩, trivial⟩) fun _ => K
/-- Pass on an odd chunk: what came across x goes across z. -/
def passZ (d : Dev nD) (k : Fin 16) (K : KProg F) : KProg F :=
  gotX d k <| .op (.enqueueDma (xqM d k) (.remote (Dev.tc (devZ d)) (xqM d k) (.dma (sem16 cc0_scratch10 k))) (.dma (sem16 cc0_scratch11 k))
    (View.wordExact_bits rfl) (View.wordExact_bits rfl) ⟨⟨rfl, Or.inl rfl⟩, trivial⟩) fun _ => K
/-- Pass on chunk `k`. -/
def pass (d : Dev nD) (k : Fin 16) (K : KProg F) : KProg F :=
  if k.val % 2 = 0 then passX d k K else passZ d k K

/-- Wait for what has been passed on as chunk `k` to be read. -/
def passed (d : Dev nD) (k : Fin 16) (K : KProg F) : KProg F :=
  if k.val % 2 = 0 then
    .op (.waitDma2 (sem16 cc0_scratch10 k) (zqM d k) (zqM d k) (View.wordExact_bits rfl) (View.wordExact_bits rfl)) fun _ => K
  else
    .op (.waitDma2 (sem16 cc0_scratch10 k) (xqM d k) (xqM d k) (View.wordExact_bits rfl) (View.wordExact_bits rfl)) fun _ => K

/-- The last waits for chunk `k`: the copy that was not passed on, and the one passed to this device. -/
def landed (d : Dev nD) (k : Fin 16) (K : KProg F) : KProg F :=
  (if k.val % 2 = 0 then gotX d k else gotZ d k) <| gotD d k K

/-- The chunks from `k` on, in order, each by `f`. -/
def each (f : Fin 16 → KProg F → KProg F) (K : KProg F) : (k j : Nat) → k + j = 16 → KProg F
  | _, 0, _ => K
  | k, j + 1, h => f ⟨k, by omega⟩ (each f K (k + 1) j (by omega))

/-- One chunk of the main loop. -/
def round (d : Dev nD) (k : Fin 16) (K : KProg F) : KProg F :=
  fetched d k <|
  (if h : k.val + 1 < 16 then fetch d ⟨k.val + 1, h⟩ else id) <|
  exchanged d k <|
  (if 2 ≤ k.val then drained d ⟨k.val - 2, by omega⟩ else id) <|
  compute k <| spread d k <|
  (if 1 ≤ k.val then pass d ⟨k.val - 1, by omega⟩ else id) K

/-- What follows the main loop. -/
def tail (d : Dev nD) : KProg F :=
  pass d 15 <| drained d 14 <| drained d 15 <|
  each (landed d) (each (passed d) (.ret ⟨⟩) 0 16 rfl) 0 16 rfl

/-- What follows the barrier. -/
def work (d : Dev nD) : KProg F :=
  each (ySend d) (fetch d 0 (each (round d) (tail d) 0 16 rfl)) 0 16 rfl

/-- The barrier with the three neighbours, then the work. -/
def body : KProg F :=
  .op .deviceId fun d =>
  .op (.semSignal (Dev.tc (devY d)) barrier0 1) fun _ =>
  .op (.semSignal (Dev.tc (devX d)) barrier0 1) fun _ =>
  .op (.semSignal (Dev.tc (devZ d)) barrier0 1) fun _ =>
  .op (.semWait barrier0 3) fun _ => work d

set_option maxRecDepth 100000 in
set_option maxHeartbeats 4000000 in
/-- The printed body is this one. -/
theorem body_eq : cc0_body (F := F) (Memref.whole main_arg0) (Memref.isWhole_whole _) (Memref.whole main_arg1) (Memref.isWhole_whole _)
    (stage0_0 0) (hstage0_0 0) (Memref.whole main_v2) (Memref.isWhole_whole _) (Memref.whole cc0_scratch0) (Memref.isWhole_whole _)
    (Memref.whole cc0_scratch1) (Memref.isWhole_whole _) (Memref.whole cc0_scratch2) (Memref.isWhole_whole _)
    (Memref.whole cc0_scratch3) (Memref.isWhole_whole _) cc0_scratch4 cc0_scratch5 cc0_scratch6 cc0_scratch7 cc0_scratch8 cc0_scratch9
    cc0_scratch10 cc0_scratch11 cc0_scratch12 cc0_scratch13 cc0_scratch14 = body := rfl

end Cert.KernelIdeal.Talk
-- ==== Proof.CellsIdeal.lean ====
/-
The protocol between the devices: its semaphores, who pays each of them, how much, and what each
payment hands over.

Barrier: each of the three neighbours signals once. The signal of a neighbour lends the rows of its
buffers that this device will write, with the fact that the semaphores it will credit are ready.
Exchange across y: chunk `k` of the neighbour's partial rows lands in the receive buffer.
Results: chunk `k` of a quarter lands in its rows of the result, from the neighbour across x, from the
one across z, and passed on from the quarter across both.
Every other semaphore is the device's own: a copy hands back the source's share, and a local one the
rows it has written as well.
-/
module

public import proofs.«01_k».proof.Proof.ProgIdeal
public import Idealize.ShloMosaic.Lib.Pipeline.Regions
public import Idealize.ShloMosaic.Lib.Pipeline.Kit
public import Idealize.ShloMosaic.Lib.Rounds
public import Idealize.ShloMosaic.Lib.StableHlo
public import Idealize.ShloMosaic.Lib.Tactic
public import Idealize.ShloMosaic.Lib.MemrefSat
public import Idealize.ShloMosaic.Lib.Pipeline.Value
public import Idealize.ShloMosaic.Lib.Pipeline.RegionTalk

@[expose] public section

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The devices -/

theorem devY_devY (c : Dev nD) : devY (devY c) = c := by revert c; decide +kernel
theorem devX_devX (c : Dev nD) : devX (devX c) = c := by revert c; decide +kernel
theorem devZ_devZ (c : Dev nD) : devZ (devZ c) = c := by revert c; decide +kernel
theorem devX_devZ (c : Dev nD) : devX (devZ c) = devZ (devX c) := by revert c; decide +kernel

/-- The four devices that hold one quarter's rows are told apart by x and z; each neighbour map is its own inverse. -/
def eqvY : Dev nD ≃ Dev nD := ⟨devY, devY, devY_devY, devY_devY⟩
def eqvX : Dev nD ≃ Dev nD := ⟨devX, devX, devX_devX, devX_devX⟩
def eqvZ : Dev nD ≃ Dev nD := ⟨devZ, devZ, devZ_devZ, devZ_devZ⟩

/-! ## The semaphores -/

/-- The kernel's semaphores: the barrier, eight arrays of one per chunk, three of one per slot. -/
abbrev Cell : Type := Unit ⊕ (Fin 8 × Fin 16) ⊕ (Fin 3 × Fin 2)
@[match_pattern] abbrev bar : Cell := .inl ()
@[match_pattern] abbrev arr (a : Fin 8) (k : Fin 16) : Cell := .inr (.inl (a, k))
@[match_pattern] abbrev sl (a : Fin 3) (s : Fin 2) : Cell := .inr (.inr (a, s))

/-- Chunk `k` sent across y. -/
abbrev cYs (k : Fin 16) : Cell := arr 0 k
/-- Chunk `k` received across y. -/
abbrev cYr (k : Fin 16) : Cell := arr 1 k
/-- Finished chunk `k` sent across x. -/
abbrev cXs (k : Fin 16) : Cell := arr 2 k
/-- Finished chunk `k` sent across z. -/
abbrev cZs (k : Fin 16) : Cell := arr 3 k
/-- The finished chunk `k` of the neighbour across x received. -/
abbrev cXr (k : Fin 16) : Cell := arr 4 k
/-- The finished chunk `k` of the neighbour across z received. -/
abbrev cZr (k : Fin 16) : Cell := arr 5 k
/-- A received chunk `k` passed on. -/
abbrev cFs (k : Fin 16) : Cell := arr 6 k
/-- The finished chunk `k` of the device across both received. -/
abbrev cDr (k : Fin 16) : Cell := arr 7 k
/-- The own partial rows fetched into slot `s`. -/
abbrev cIn (s : Fin 2) : Cell := sl 0 s
/-- The residual's rows fetched into slot `s`. -/
abbrev cRs (s : Fin 2) : Cell := sl 1 s
/-- Slot `s`'s finished rows stored. -/
abbrev cSt (s : Fin 2) : Cell := sl 2 s

/-- Where a semaphore is among the program's. -/
def semOf : Cell → SemLoc sig
  | bar => .reg barrier0
  | arr a k => .dma (⟨1 + 16 * a.val + k.val, by omega⟩ : Fin 135)
  | sl a s => .dma (⟨129 + 2 * a.val + s.val, by omega⟩ : Fin 135)

/-- Which of the kernel's semaphores one of the program's is. -/
def cellAt : SemLoc sig → Option Cell
  | .reg _ => some bar
  | .dma i =>
    let n : Nat := (show Fin 135 from i).val
    if n = 0 then none
    else if n < 129 then some (arr (Fin.ofNat 8 ((n - 1) / 16)) (Fin.ofNat 16 ((n - 1) % 16)))
    else some (sl (Fin.ofNat 3 ((n - 129) / 2)) (Fin.ofNat 2 ((n - 129) % 2)))

theorem cellAt_semOf (x : Cell) : cellAt (semOf x) = some x := by revert x; decide +kernel

theorem semOf_inj : Function.Injective semOf := fun x y h => by
  have := congrArg cellAt h
  rw [cellAt_semOf, cellAt_semOf] at this
  exact Option.some.inj this

theorem sem_Ys (k : Fin 16) : SemLoc.dma (sem16 cc0_scratch4 k) = semOf (cYs k) := by revert k; decide +kernel
theorem sem_Yr (k : Fin 16) : SemLoc.dma (sem16 cc0_scratch5 k) = semOf (cYr k) := by revert k; decide +kernel
theorem sem_Xs (k : Fin 16) : SemLoc.dma (sem16 cc0_scratch6 k) = semOf (cXs k) := by revert k; decide +kernel
theorem sem_Zs (k : Fin 16) : SemLoc.dma (sem16 cc0_scratch7 k) = semOf (cZs k) := by revert k; decide +kernel
theorem sem_Xr (k : Fin 16) : SemLoc.dma (sem16 cc0_scratch8 k) = semOf (cXr k) := by revert k; decide +kernel
theorem sem_Zr (k : Fin 16) : SemLoc.dma (sem16 cc0_scratch9 k) = semOf (cZr k) := by revert k; decide +kernel
theorem sem_Fs (k : Fin 16) : SemLoc.dma (sem16 cc0_scratch10 k) = semOf (cFs k) := by revert k; decide +kernel
theorem sem_Dr (k : Fin 16) : SemLoc.dma (sem16 cc0_scratch11 k) = semOf (cDr k) := by revert k; decide +kernel
theorem sem_In (s : Fin 2) : SemLoc.dma (sem2 cc0_scratch12 s) = semOf (cIn s) := by revert s; decide +kernel
theorem sem_Rs (s : Fin 2) : SemLoc.dma (sem2 cc0_scratch13 s) = semOf (cRs s) := by revert s; decide +kernel
theorem sem_St (s : Fin 2) : SemLoc.dma (sem2 cc0_scratch14 s) = semOf (cSt s) := by revert s; decide +kernel

/-- Device `c`'s semaphore `x`. -/
abbrev gc (c : Dev nD) (x : Cell) : GSem nD τ sig := ((c : Thread nD τ), semOf x)

/-! ## The contents -/

/-- What the devices' arrays hold: the partial blocks, the residuals, and the weights as the kernel reads them. -/
structure Data (F : FTy → Type) where
  part : Dev nD → S1x4096x4096.Idx → Elt F .f32
  resid : Dev nD → S4096x4096.Idx → Elt F .f32
  gamma : Dev nD → S1x4096.Idx → Elt F .f32

variable (I : Data F)

/-- Chunk `k` of device `d`'s quarter of its partial block. -/
def own (d : Dev nD) (k : Fin 16) : Vec F S1x64x4096 .f32 := fun j =>
  I.part d ((Rect.unit (s := S1x4096x4096) (k0_off1 d (BitVec.ofNat 32 (64 * k.val))) S1x64x4096.size (k0_off1_inb d k)).emb j)
/-- Chunk `k` of device `d`'s quarter of its residual. -/
def res (d : Dev nD) (k : Fin 16) : Vec F S64x4096 .f32 := fun j =>
  I.resid d ((Rect.unit (s := S4096x4096) (k0_off2 d (BitVec.ofNat 32 (64 * k.val))) S64x4096.size (k0_off2_inb d k)).emb j)
/-- The rows as a copy addresses them: without the axis of extent one. -/
def flat (X : Vec F S1x64x4096 .f32) : Vec F S64x4096 .f32 := shapeCast S64x4096 X shapeCasts_S1x64x4096_S64x4096
/-- The rows as the arithmetic addresses them: with the axis of extent one. -/
def unflat (X : Vec F S64x4096 .f32) : Vec F S1x64x4096 .f32 := shapeCast S1x64x4096 X shapeCasts_S64x4096_S1x64x4096
/-- Device `d`'s finished chunk `k`. -/
def fin (d : Dev nD) (k : Fin 16) : Vec F S1x64x4096 .f32 :=
  rowsOf (own I d k) (own I (devY d) k) (unflat (res I d k)) (I.gamma d)

omit [FloatOps F] in
theorem flat_unflat (X : Vec F S64x4096 .f32) : flat (unflat X) = X := by
  funext j
  show X _ = X j
  rw [Shape.reshapeEquiv_reshapeEquiv, Shape.reshapeEquiv_self]
omit [FloatOps F] in
theorem unflat_flat (X : Vec F S1x64x4096 .f32) : unflat (flat X) = X := by
  funext j
  show X _ = X j
  rw [Shape.reshapeEquiv_reshapeEquiv, Shape.reshapeEquiv_self]

/-! ## The algebra, and ownership of rows -/

/-- The pipeline's ghost state beside the protocol's. -/
abbrev UU : Type := UR sig nD τ × URounds (GSem nD τ sig) (Fin 3)

local notation "𝕄" => MT nD τ sig Unit (Elt F) ℕ UU ℕ

abbrev EP : Emb (UR sig nD τ) (MT nD τ sig Unit (Elt F) ℕ UU ℕ) := embL
abbrev ER : Emb (URounds (GSem nD τ sig) (Fin 3)) (MT nD τ sig Unit (Elt F) ℕ UU ℕ) := embR

/-- Device `d` owns the rows at contents `X`. -/
abbrev at' (d : Dev nD) {sp : Space} {s : Shape} (m : Memref sig .tc sp s .f32) (q : PosShare TreeShare) (X : Vec F s .f32) : sProp 𝕄 :=
  owns (d.tc : Thread nD τ) m q X
/-- Device `d` owns the rows, whatever they hold. -/
abbrev any (d : Dev nD) {sp : Space} {s : Shape} (m : Memref sig .tc sp s .f32) : sProp 𝕄 :=
  ownsSat (d.tc : Thread nD τ) m fullShare (fun _ => True)

/-- A chunk's share of a finished slot for the copy across x, and for the copy across z. -/
abbrev qL : PosShare TreeShare := fullShare.left
abbrev qX : PosShare TreeShare := fullShare.right.left
abbrev qZ : PosShare TreeShare := fullShare.right.right

/-- The chunk that slot `s` carries in its round `r`. -/
def chunk (s : Fin 2) (r : ℕ) : Fin 16 := Fin.ofNat 16 (2 * r + s.val)

/-! ## What each payment hands over -/

/-- The neighbour across y lends its receive buffer. -/
def payY (c : Dev nD) : sProp 𝕄 :=
  bigSep Finset.univ fun k : Fin 16 => iprop(any (devY c) (recvM k) ∗ reached ER (gc (devY c) (cYr k)) 0)
/-- Chunk `k` of what the neighbour across x lends: the rows of this device's quarter, and for an even chunk those of the quarter across z. -/
def payX1 (c : Dev nD) (k : Fin 16) : sProp 𝕄 :=
  iprop((any (devX c) (ownM c k) ∗ reached ER (gc (devX c) (cXr k)) 0)
    ∗ if k.val % 2 = 0 then iprop(any (devX c) (zqM c k) ∗ reached ER (gc (devX c) (cDr k)) 0) else emp)
/-- Chunk `k` of what the neighbour across z lends: the rows of this device's quarter, and for an odd chunk those of the quarter across x. -/
def payZ1 (c : Dev nD) (k : Fin 16) : sProp 𝕄 :=
  iprop((any (devZ c) (ownM c k) ∗ reached ER (gc (devZ c) (cZr k)) 0)
    ∗ if k.val % 2 = 0 then emp else iprop(any (devZ c) (xqM c k) ∗ reached ER (gc (devZ c) (cDr k)) 0))
def payX (c : Dev nD) : sProp 𝕄 := bigSep Finset.univ (payX1 c)
def payZ (c : Dev nD) : sProp 𝕄 := bigSep Finset.univ (payZ1 c)

/-- What a device passes on as chunk `k`: where it lies, and what it holds. -/
def passM (c : Dev nD) (k : Fin 16) : Memref sig .tc .hbm S64x4096 .f32 := if k.val % 2 = 0 then zqM c k else xqM c k
def passV (c : Dev nD) (k : Fin 16) : Vec F S64x4096 .f32 := flat (fin I (if k.val % 2 = 0 then devZ c else devX c) k)

/-- What a duty of device `c`'s semaphore hands over. -/
def pay (c : Dev nD) (r : ℕ) (d : Fin 3) : Cell → sProp 𝕄
  | bar => if d = 0 then payY c else if d = 1 then payX c else payZ c
  | arr 0 k => at' c (partM c k) qL (flat (own I c k))
  | arr 1 k => at' c (recvM k) fullShare (flat (own I (devY c) k))
  | arr 2 k => at' c (outM (slot k)) qX (flat (fin I c k))
  | arr 3 k => at' c (outM (slot k)) qZ (flat (fin I c k))
  | arr 4 k => at' c (xqM c k) fullShare (flat (fin I (devX c) k))
  | arr 5 k => at' c (zqM c k) fullShare (flat (fin I (devZ c) k))
  | arr 6 k => at' c (passM c k) fullShare (passV I c k)
  | arr 7 k => at' c (dqM c k) fullShare (flat (fin I (devX (devZ c)) k))
  | sl 0 s => iprop(at' c (inM s) fullShare (flat (own I c (chunk s r))) ∗ at' c (partM c (chunk s r)) fullShare.right (flat (own I c (chunk s r))))
  | sl 1 s => iprop(at' c (resM s) fullShare (res I c (chunk s r)) ∗ at' c (residM c (chunk s r)) fullShare (res I c (chunk s r)))
  | sl 2 s => iprop(at' c (ownM c (chunk s r)) fullShare (flat (fin I c (chunk s r))) ∗ at' c (outM s) qL (flat (fin I c (chunk s r))))

instance payX1_storable (c : Dev nD) (k : Fin 16) : BI.Storable (upEmb : UEmb _ 𝕄) (payX1 c k) := by
  unfold payX1; split <;> infer_instance
instance payZ1_storable (c : Dev nD) (k : Fin 16) : BI.Storable (upEmb : UEmb _ 𝕄) (payZ1 c k) := by
  unfold payZ1; split <;> infer_instance

instance pay_storable (c : Dev nD) (r : ℕ) (d : Fin 3) (x : Cell) : BI.Storable (upEmb : UEmb _ 𝕄) (pay I c r d x) := by
  unfold pay
  split
  · unfold payY payX payZ
    (repeat' split) <;> infer_instance
  all_goals infer_instance

/-- The units of a chunk's copy. -/
def N : ℕ := (ownM 0 0).view.dmaCredit
theorem N_pos : 0 < N := View.dmaCredit_pos _ (by decide)

/-- The duties of a semaphore's rounds. -/
def dut (r : ℕ) : Cell → Finset (Fin 3)
  | bar => if r = 0 then Finset.univ else ∅
  | arr _ _ => if r = 0 then {0} else ∅
  | sl _ _ => if r < 8 then {0} else ∅
/-- The units of each. -/
def amt : Cell → ℕ
  | bar => 1
  | _ => N
theorem amt_pos (x : Cell) : 0 < amt x := by
  unfold amt; split
  · exact Nat.one_pos
  · exact N_pos

/-- The protocol's schedule. -/
def Rd : Rounds.Schedule (GSem nD τ sig) (Fin 3) 𝕄 where
  duties g r := if g.1.2 = .tc then (cellAt g.2).elim ∅ (dut r) else ∅
  unitless _ := False
  amount g _ _ := (cellAt g.2).elim 1 amt
  payload g r d := (cellAt g.2).elim iprop(emp) (pay I g.1.1 r d)
  amount_pos g _ _ _ := by
    show 0 < (cellAt g.2).elim 1 amt
    cases cellAt g.2 with
    | none => exact Nat.one_pos
    | some x => exact amt_pos x

instance Rd_storable (g : GSem nD τ sig) (r : ℕ) (d : Fin 3) : BI.Storable (upEmb : UEmb _ 𝕄) ((Rd (F := F) I).payload g r d) := by
  show BI.Storable upEmb ((cellAt g.2).elim iprop(emp) (pay I g.1.1 r d))
  cases cellAt g.2 with
  | none => show BI.Storable upEmb (iprop(emp) : sProp 𝕄); infer_instance
  | some x => exact pay_storable I _ _ _ x

theorem Rd_duties (c : Dev nD) (x : Cell) (r : ℕ) : (Rd I).duties (gc c x) r = dut r x := by
  show (if (Proc.tc : Proc τ) = .tc then (cellAt (semOf x)).elim ∅ (dut r) else ∅) = _
  rw [if_pos rfl, cellAt_semOf]; rfl
theorem Rd_amount (c : Dev nD) (x : Cell) (r : ℕ) (d : Fin 3) : (Rd I).amount (gc c x) r d = amt x := by
  show (cellAt (semOf x)).elim 1 amt = _
  rw [cellAt_semOf]; rfl
theorem Rd_payload (c : Dev nD) (x : Cell) (r : ℕ) (d : Fin 3) : (Rd I).payload (gc c x) r d = pay I c r d x := by
  show (cellAt (semOf x)).elim iprop(emp) (pay I c r d) = _
  rw [cellAt_semOf]; rfl

theorem Rd_expect (c : Dev nD) (x : Cell) (r : ℕ) : (Rd I).expect (gc c x) r = (dut r x).card * amt x := by
  unfold Schedule.expect Schedule.amountOf
  rw [Rd_duties, Finset.sum_congr rfl fun d _ => Rd_amount I c x r d, Finset.sum_const, smul_eq_mul]

/-- The number of rounds a semaphore has. -/
def rounds : Cell → ℕ
  | sl _ _ => 8
  | _ => 1

theorem dut_later (x : Cell) (r : ℕ) (h : rounds x ≤ r) : dut r x = ∅ := by
  match x with
  | bar => exact if_neg (by simp only [rounds] at h; omega)
  | arr _ _ => exact if_neg (by simp only [rounds] at h; omega)
  | sl _ _ => exact if_neg (by simp only [rounds] at h; omega)

theorem dut_arr (a : Fin 8) (k : Fin 16) : dut 0 (arr a k) = {0} := rfl
theorem dut_sl (a : Fin 3) (s : Fin 2) (r : ℕ) (h : r < 8) : dut r (sl a s) = {0} := if_pos h

/-! ## What is owed, and the levels -/

/-- The one index of each semaphore's level. -/
def L (g : GSem nD τ sig) : Finset Unit := if g.1.2 = .tc then {()} else ∅
/-- A semaphore's level: a device that waits on one owes only to higher ones. -/
def lev : Cell → ℕ
  | bar => 1
  | arr 1 _ => 2
  | arr 4 k => 3 + k.val
  | arr 5 k => 3 + k.val
  | arr 7 _ => 100
  | _ => 0
def lv (g : GSem nD τ sig) (_ : Unit) : ℕ := (cellAt g.2).elim 0 lev

theorem L_of_ne (g : GSem nD τ sig) (h : g.1.2 ≠ .tc) : L g = ∅ := if_neg h
theorem L_tc (c : Dev nD) (sm : SemLoc sig) : L ((c : Thread nD τ), sm) = {()} := if_pos rfl
theorem lv_gc (c : Dev nD) (x : Cell) : lv (gc c x) () = lev x := by
  show (cellAt (semOf x)).elim 0 lev = _
  rw [cellAt_semOf]; rfl

/-- The chunks from `n` on. -/
def since (n : ℕ) : Finset (Fin 16) := Finset.univ.filter fun k => n ≤ k.val
theorem mem_since (n : ℕ) (k : Fin 16) : k ∈ since n ↔ n ≤ k.val := by simp [since]
theorem since_take (k : Fin 16) : since k.val = insert k (since (k.val + 1)) := by
  ext i; rw [Finset.mem_insert, mem_since, mem_since, Fin.ext_iff]; omega
theorem not_mem_since (k : Fin 16) : k ∉ since (k.val + 1) := by rw [mem_since]; omega
theorem since_end (n : ℕ) (h : 16 ≤ n) : since n = ∅ := by
  ext i; simp [mem_since]; omega

/-- Whom chunk `k` is passed on to. -/
def devP (c : Dev nD) (k : Fin 16) : Dev nD := if k.val % 2 = 0 then devX c else devZ c

/-- The units a device owes of the chunks from `n` on, to the semaphore `f k` each. -/
def debt (n : ℕ) (f : Fin 16 → GSem nD τ sig) : CellTallies nD τ sig Unit := ∑ k ∈ since n, tallyAt (f k) () N

theorem debt_take (k : Fin 16) (f : Fin 16 → GSem nD τ sig) : debt k.val f = tallyAt (f k) () N + debt (k.val + 1) f := by
  unfold debt; rw [since_take, Finset.sum_insert (not_mem_since k)]
theorem debt_end (n : ℕ) (h : 16 ≤ n) (f : Fin 16 → GSem nD τ sig) : debt n f = 0 := by
  unfold debt; rw [since_end n h, Finset.sum_empty]

/-- What device `c` owes past the barrier: chunks across y from `ny` on, finished chunks across x and z from `no`, passed chunks from `np`. -/
def owe (c : Dev nD) (ny no np : ℕ) : CellTallies nD τ sig Unit :=
  debt ny (fun k => gc (devY c) (cYr k)) + (debt no (fun k => gc (devX c) (cXr k)) + (debt no (fun k => gc (devZ c) (cZr k))
    + debt np (fun k => gc (devP c k) (cDr k))))

end Cert.KernelIdeal.Talk
-- ==== Proof.StepsIdeal.lean ====
/-
The kernel's steps on rows: a copy to a neighbour, a copy at home, a wait, a load, a store, each
with the rows it takes and gives at named contents.
-/
module

public import proofs.«01_k».proof.Proof.CellsIdeal

@[expose] public section

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (I : Data F)

local notation "𝕄" => MT nD τ sig Unit (Elt F) ℕ UU ℕ

/-- Device `c` runs `p` to `Q`. -/
abbrev runs (c : Dev nD) (p : KProg F) (Q : PUnit → sProp 𝕄) : sProp 𝕄 :=
  wp frame (wpE (defs₀ (F := F)) Variants.none (c : Thread nD τ) none) Set.univ p Q

/-- Every semaphore of every device keeps the schedule. -/
def invs (κ : GSem nD τ sig → ℕ) : sProp 𝕄 :=
  bigSep Finset.univ fun p : Dev nD × Cell => cellInv ER (Rd I) (κ (gc p.1 p.2)) (gc p.1 p.2)

instance invs_persistent (κ : GSem nD τ sig → ℕ) : BI.Persistent (invs I κ) := by unfold invs; infer_instance

theorem inv_at (κ : GSem nD τ sig → ℕ) (c : Dev nD) (x : Cell) : invs I κ ⊢ cellInv ER (Rd I) (κ (gc c x)) (gc c x) :=
  bigSep_elim (Φ := fun p : Dev nD × Cell => cellInv ER (Rd I) (κ (gc p.1 p.2)) (gc p.1 p.2)) (Finset.mem_univ (c, x))

/-- Device `c` owes `O`. -/
def debts (c : Dev nD) (O : CellTallies nD τ sig Unit) : sProp 𝕄 := iprop(∃ W, owes (c : Thread nD τ) O W)

/-- The units of a chunk's copy paid to device `c`'s semaphore `x`: what its wait spends. -/
abbrev unit' (c : Dev nD) (x : Cell) : sProp 𝕄 := cred (tallyAt (gc c x) () N)

/-- Device `c`'s place in the rounds of its semaphore `x`. -/
abbrev pos (c : Dev nD) (x : Cell) (r : ℕ) : sProp 𝕄 := atPos ER (gc c x) r ∅ 0

theorem any_of (c : Dev nD) {sp : Space} {s : Shape} (m : Memref sig .tc sp s .f32) (X : Vec F s .f32) :
    (at' c m fullShare X : sProp 𝕄) ⊢ any c m := ownsSat_intro _ _ _ trivial

variable (κ : GSem nD τ sig → ℕ)

/-- A copy to device `c'`: the rows land there, the source's share comes back, each with its semaphore's units. -/
theorem step_send (c c' : Dev nD) {sp sp' : Space} {s : Shape} {src : Memref sig .tc sp s .f32} {dst : Memref sig .tc sp' s .f32}
    {hsc : dst.view.ref.isScScratch = false} {sS sR : SemLoc sig} {hsrc : src.view.WordExact} {hdst : dst.view.WordExact}
    {hsem : DmaTarget.Typed sp sR (.remote (c' : Thread nD τ) dst sS hsc)} {K : PUnit → KProg F} {Q : PUnit → sProp 𝕄}
    {q : PosShare TreeShare} {X : Vec F s .f32} (x₁ x₂ : Cell) (e₁ : sS = semOf x₁) (e₂ : sR = semOf x₂)
    (h₁ : dut 0 x₁ = {0}) (h₂ : dut 0 x₂ = {0}) (a₁ : amt x₁ = N) (a₂ : amt x₂ = N) (hN : dst.view.amount sR = N)
    {O₀ : CellTallies nD τ sig Unit} (O : CellTallies nD τ sig Unit) (hO : O₀ = O + tallyAt (gc c' x₂) () N)
    (p₁ : at' c src q X ⊢ pay I c 0 0 x₁) (p₂ : at' c' dst fullShare X ⊢ pay I c' 0 0 x₂) :
    iprop(invs I κ ∗ at' c src q X ∗ any c' dst ∗ debts c O₀ ∗ dutyTok ER (gc c x₁) 0 0 ∗ reached ER (gc c x₁) 0
        ∗ dutyTok ER (gc c' x₂) 0 0 ∗ reached ER (gc c' x₂) 0)
      ⊢ iprop(((unit' c x₁ ∗ debts c O) -∗ runs c (K ⟨⟩) Q)
          -∗ runs c (.op (.enqueueDma src (.remote (c' : Thread nD τ) dst sS hsc) sR hsrc hdst hsem) K) Q) := by
  subst e₁ e₂
  unfold debts any at' ownsSat owns
  iintro ⟨#HI, ⟨%fs, %hfs, Hs⟩, ⟨%fd, -, Hd⟩, ⟨%W, HO⟩, Ht₁, #Hr₁, Ht₂, #Hr₂⟩ Hk
  iapply (Rounds.wp_send_pointsTo Variants.none ER (Rd I) (c : Thread nD τ) none (c' := (c' : Thread nD τ)) (src := src) (dst := dst)
      (sS := semOf x₁) (sem := semOf x₂) (q := q) (fs := fs) (fd := fd) (κ₁ := κ (gc c x₁)) (κ₂ := κ (gc c' x₂))
      (r₁ := 0) (r₂ := 0) (d₁ := 0) (d₂ := 0)
      (by rw [Rd_duties, h₁]; exact Finset.mem_singleton_self _) (by rw [Rd_duties, h₂]; exact Finset.mem_singleton_self _)
      () () N hN ((Rd_amount I c x₁ 0 0).trans a₁) ((Rd_amount I c' x₂ 0 0).trans a₂) O hO (W := W)
      (by
        rw [Rd_payload]; refine BIBase.Entails.trans ?_ p₁
        rw [← hfs]; exact owns_intro _ _ _ _)
      (by
        rw [Rd_payload]; refine BIBase.Entails.trans ?_ p₂
        have e : dst.view.read (Elt F) (dst.view.write (Elt F) fd (src.view.read (Elt F) fs) Finset.univ) = X := by
          rw [View.read_write_univ, hfs]
        rw [← e]; exact owns_intro _ _ _ _)) $$ [Hs Hd HO Ht₁ Ht₂]
  · isplitr; · iapply (inv_at I κ c x₁); iexact HI
    isplitr; · iapply (inv_at I κ c' x₂); iexact HI
    isplitl [Hs]; · iexact Hs
    isplitl [Hd]; · iexact Hd
    isplitl [HO]; · iexact HO
    isplitl [Ht₁]; · iexact Ht₁
    isplitr; · iexact Hr₁
    isplitl [Ht₂]; · iexact Ht₂
    iexact Hr₂
  iintro ⟨Hc, HO⟩
  iapply Hk
  isplitl [Hc]; · iexact Hc
  iexists W; iexact HO

/-- A copy at home. -/
theorem step_copy (c : Dev nD) {sp sp' : Space} {s : Shape} {src : Memref sig .tc sp s .f32} {dst : Memref sig .tc sp' s .f32}
    {sm : SemLoc sig} {hsrc : src.view.WordExact} {hdst : dst.view.WordExact} {hsem : DmaTarget.Typed sp sm (DmaTarget.here (nD := nD) (p := (Proc.tc : Proc τ)) dst)}
    {K : PUnit → KProg F} {Q : PUnit → sProp 𝕄} {q : PosShare TreeShare} {X : Vec F s .f32} (x : Cell) (r : ℕ) (e : sm = semOf x)
    (h : dut r x = {0}) (a : amt x = N) (hN : dst.view.amount sm = N)
    (p : iprop(at' c dst fullShare X ∗ at' c src q X) ⊢ pay I c r 0 x) :
    iprop(invs I κ ∗ at' c src q X ∗ any c dst ∗ dutyTok ER (gc c x) r 0 ∗ reached ER (gc c x) r)
      ⊢ iprop((unit' c x -∗ runs c (K ⟨⟩) Q) -∗ runs c (.op (.enqueueDma src (.here dst) sm hsrc hdst hsem) K) Q) := by
  subst e
  unfold any at' ownsSat owns
  iintro ⟨#HI, ⟨%fs, %hfs, Hs⟩, ⟨%fd, -, Hd⟩, Ht, #Hr⟩ Hk
  iapply (Rounds.wp_copy_pointsTo Variants.none ER (Rd I) (c : Thread nD τ) none (src := src) (dst := dst) (sem := semOf x) (q := q)
      (fs := fs) (fd := fd) (r := r) (d := 0) (κ := κ (gc c x))
      (by rw [Rd_duties, h]; exact Finset.mem_singleton_self _) () N hN ((Rd_amount I c x r 0).trans a)
      (by
        rw [Rd_payload]; refine BIBase.Entails.trans ?_ p
        have e : dst.view.read (Elt F) (dst.view.write (Elt F) fd (src.view.read (Elt F) fs) Finset.univ) = X := by
          rw [View.read_write_univ, hfs]
        refine BIClass.sep_mono ?_ ?_
        · rw [← e]; exact owns_intro _ _ _ _
        · rw [← hfs]; exact owns_intro _ _ _ _)) $$ [Hs Hd Ht]
  · isplitr; · iapply (inv_at I κ c x); iexact HI
    isplitl [Hs]; · iexact Hs
    isplitl [Hd]; · iexact Hd
    isplitl [Ht]; · iexact Ht
    iexact Hr
  iexact Hk

/-- A wait for one copy. -/
theorem step_wait (c : Dev nD) {sp sp' : Space} {s : Shape} {src : Memref sig .tc sp s .f32} {dst : Memref sig .tc sp' s .f32}
    {sm : DmaSem sig} {hsrc : src.view.WordExact} {hdst : dst.view.WordExact}
    {K : PUnit → KProg F} {Q : PUnit → sProp 𝕄} (x : Cell) (r : ℕ) (e : SemLoc.dma sm = semOf x)
    (h : dut r x = {0}) (a : amt x = N) (hN : dst.view.dmaCredit = N) {O : CellTallies nD τ sig Unit} :
    iprop(invs I κ ∗ unit' c x ∗ debts c O ∗ MayWait (c : Thread nD τ) (semOf x) () O ∗ pos c x r)
      ⊢ iprop(((debts c O ∗ pos c x (r + 1) ∗ reached ER (gc c x) (r + 1) ∗ pay I c r 0 x) -∗ runs c (K ⟨⟩) Q)
          -∗ runs c (.op (.waitDma2 sm src dst hsrc hdst) K) Q) := by
  unfold debts
  have hw : ∀ J : PUnit → sProp 𝕄, wpE (defs₀ (F := F)) Variants.none (c : Thread nD τ) none Set.univ (.waitDma2 sm src dst hsrc hdst) J
      = waitSpec (c : Thread nD τ) Set.univ (semOf x) N J := fun J => by
    rw [← e, ← hN]; exact wpE_waitDma2_eq Variants.none (c : Thread nD τ) none Set.univ J
  iintro ⟨#HI, Hc, ⟨%W, HO⟩, Hm, Hat⟩ Hk
  iapply (Rounds.wp_wait_rest_token Variants.none ER (Rd I) (c : Thread nD τ) none (κ := κ (gc c x)) (sm := semOf x)
      hw (Set.mem_univ _) () (O := O) (W := W) (R := r) (m := 0) (T := ∅)
      (by rw [Rd_expect, h, a, Finset.card_singleton, one_mul, zero_add])) $$ [Hc HO Hm Hat]
  · isplitr; · iapply (inv_at I κ c x); iexact HI
    isplitl [Hc]; · iexact Hc
    isplitl [HO]; · iexact HO
    isplitl [Hm]; · iexact Hm
    iexact Hat
  iintro ⟨HO, Hat, Hr, Hp⟩
  iapply Hk
  isplitl [HO]; · iexists _; iexact HO
  isplitl [Hat]; · iexact Hat
  isplitl [Hr]; · iexact Hr
  iapply (Entails.of_eq (show bigSep ((Rd I).duties (gc c x) r \ ∅) (fun d => (Rd I).payload (gc c x) r d) = pay I c r 0 x by
    rw [Finset.sdiff_empty, Rd_duties, h, bigSep_singleton, Rd_payload])) $$ Hp

/-- A load of the rows that a copy addresses without their first axis. -/
theorem step_load (c : Dev nD) {s : Shape} {m : Memref sig .tc .vmem s .f32} {r : Rect s} {hr : ∀ a, r.stride a = 1}
    {hq : r.shape.Squeezes S64x4096} {hl : m.view.LoadsAt r.toLoadRect} {hc : r.shape.ShapeCasts S64x4096}
    {K : (r.shape.Idx → Elt F .f32) → KProg F} {Q : PUnit → sProp 𝕄}
    {q : PosShare TreeShare} {X : r.shape.Idx → Elt F .f32} :
    (at' c ((m.slice r hr).squeeze S64x4096 hq) q (shapeCast S64x4096 X hc) : sProp 𝕄)
      ⊢ iprop((at' c ((m.slice r hr).squeeze S64x4096 hq) q (shapeCast S64x4096 X hc) -∗ runs c (K X) Q)
          -∗ runs c (.op (.load m r.toLoadRect hl) K) Q) := by
  unfold at' owns
  iintro ⟨%f, %hf, H⟩ Hk
  have hX : (m.access r).read (Elt F) f = X := by
    have h2 : shapeCast S64x4096 ((m.access r).read (Elt F) f) hc = shapeCast S64x4096 X hc := hf
    funext j
    have := congrFun h2 ((Shape.reshapeEquiv hc).symm j)
    unfold shapeCast at this
    rwa [Equiv.apply_symm_apply] at this
  iapply (wp_load_rect Variants.none (c : Thread nD τ) none Set.univ (m := m) (r := r)
    (S := ((m.slice r hr).squeeze S64x4096 hq).view.set) (q := q) (f := f) (View.set_reshape (v := m.view.slice r) (s' := S64x4096) hq.numel_eq).symm.subset) $$ H
  rw [hX]
  iintro H
  iapply Hk
  iexists f
  isplitr; · ipureintro; exact hf
  iexact H

/-- A store of the rows that a copy addresses without their first axis. -/
theorem step_store (c : Dev nD) {s : Shape} {m : Memref sig .tc .vmem s .f32} {r : Rect s} {hr : ∀ a, r.stride a = 1}
    {hq : r.shape.Squeezes S64x4096} {hc : r.shape.ShapeCasts S64x4096} {w : r.shape.Idx → Elt F .f32}
    {hx : (m.access r).Stores Finset.univ} {hm : Finset.univ = Finset.univ ∨ ∀ a, r.stride a = 1}
    {K : PUnit → KProg F} {Q : PUnit → sProp 𝕄} :
    (any c ((m.slice r hr).squeeze S64x4096 hq) : sProp 𝕄)
      ⊢ iprop((at' c ((m.slice r hr).squeeze S64x4096 hq) fullShare (shapeCast S64x4096 w hc) -∗ runs c (K ⟨⟩) Q)
          -∗ runs c (.op (.store m r w Finset.univ hx hm) K) Q) := by
  unfold any at' owns ownsSat
  iintro ⟨%f, -, H⟩ Hk
  iapply (wp_store Variants.none (c : Thread nD τ) none Set.univ (m := m) (r := r)
    (S := ((m.slice r hr).squeeze S64x4096 hq).view.set) (f := f) (View.set_reshape (v := m.view.slice r) (s' := S64x4096) hq.numel_eq).symm.subset) $$ H
  iintro H
  iapply Hk
  iexists _
  isplitr
  rotate_left
  · iexact H
  · ipureintro
    show shapeCast S64x4096 ((m.access r).read (Elt F) ((m.access r).write (Elt F) f w Finset.univ)) hc = _
    rw [View.read_write_univ]

end Cert.KernelIdeal.Talk
-- ==== Proof.PhaseIdeal.lean ====
/-
The chunks' progress: of sixteen chunks those before `a` are done, those from `a` to `b` under way, the
rest not begun, each with what it holds then.
-/
module

public import proofs.«01_k».proof.Proof.StepsIdeal

@[expose] public section

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {M : Type} [URA M]

/-- What one chunk holds. -/
def stage (a b : ℕ) (D U B : Fin 16 → sProp M) (k : Fin 16) : sProp M := if k.val < a then D k else if k.val < b then U k else B k

/-- What all sixteen hold. -/
def phase (a b : ℕ) (D U B : Fin 16 → sProp M) : sProp M := bigSep Finset.univ (stage a b D U B)

variable {a b : ℕ} {D U B : Fin 16 → sProp M}

theorem phase_move (k : Fin 16) (a b a' b' : ℕ) (h : ∀ i : Fin 16, i ≠ k → stage a b D U B i = stage a' b' D U B i) :
    phase a b D U B ⊢ iprop(stage a b D U B k ∗ (stage a' b' D U B k -∗ phase a' b' D U B)) := by
  unfold phase
  rw [bigSep_univ_at _ k, bigSep_univ_at (stage a' b' D U B) k,
    bigSep_congr (s := Finset.univ.erase k) fun i hi => h i (Finset.ne_of_mem_erase hi)]
  iintro ⟨H, HR⟩
  isplitl [H]; · iexact H
  iintro H
  isplitl [H]; · iexact H
  iexact HR

/-- Begin the next chunk. -/
theorem phase_begin (k : Fin 16) (h : a ≤ k.val) :
    phase a k.val D U B ⊢ iprop(B k ∗ (U k -∗ phase a (k.val + 1) D U B)) := by
  have := phase_move (D := D) (U := U) (B := B) k a k.val a (k.val + 1) fun i hi => by
    unfold stage
    have : i.val ≠ k.val := fun e => hi (Fin.ext e)
    by_cases h1 : i.val < a
    · rw [if_pos h1, if_pos h1]
    · rw [if_neg h1, if_neg h1]
      by_cases h2 : i.val < k.val
      · rw [if_pos h2, if_pos (by omega)]
      · rw [if_neg h2, if_neg (show ¬ i.val < k.val + 1 by omega)]
  have e1 : stage a k.val D U B k = B k := by unfold stage; rw [if_neg (by omega), if_neg (by omega)]
  have e2 : stage a (k.val + 1) D U B k = U k := by unfold stage; rw [if_neg (by omega), if_pos (by omega)]
  rwa [e1, e2] at this

/-- Finish the chunk that was begun first. -/
theorem phase_end (k : Fin 16) (h : k.val < b) :
    phase k.val b D U B ⊢ iprop(U k ∗ (D k -∗ phase (k.val + 1) b D U B)) := by
  have := phase_move (D := D) (U := U) (B := B) k k.val b (k.val + 1) b fun i hi => by
    unfold stage
    have : i.val ≠ k.val := fun e => hi (Fin.ext e)
    by_cases h2 : i.val < k.val
    · rw [if_pos h2, if_pos (by omega)]
    · rw [if_neg h2, if_neg (show ¬ i.val < k.val + 1 by omega)]
  have e1 : stage k.val b D U B k = U k := by unfold stage; rw [if_neg (by omega), if_pos (by omega)]
  have e2 : stage (k.val + 1) b D U B k = D k := by unfold stage; rw [if_pos (by omega)]
  rwa [e1, e2] at this

/-- Look at a chunk that is done. -/
theorem phase_done (k : Fin 16) (h : k.val < a) : phase a b D U B ⊢ iprop(D k ∗ (D k -∗ phase a b D U B)) := by
  have := phase_move (D := D) (U := U) (B := B) k a b a b fun _ _ => rfl
  have e1 : stage a b D U B k = D k := by unfold stage; rw [if_pos h]
  rwa [e1] at this

theorem phase_first : phase 0 0 D U B = bigSep Finset.univ B :=
  bigSep_congr fun i _ => by unfold stage; rw [if_neg (by omega), if_neg (by omega)]

theorem phase_last (h : 16 ≤ a) : phase a b D U B = bigSep Finset.univ D :=
  bigSep_congr fun i _ => by unfold stage; rw [if_pos (by omega)]

end Cert.KernelIdeal.Talk
-- ==== Proof.FactsIdeal.lean ====
/-
Which rows are whose, how many units a copy of them pays, and which waits the levels allow.
-/
module

public import proofs.«01_k».proof.Proof.PhaseIdeal

@[expose] public section

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The rows of one quarter, as different devices name them -/

theorem off_x (c : Dev nD) (k : Fin 16) : k0_off4 c (BitVec.ofNat 32 (64 * k.val)) = k0_off2 (devX c) (BitVec.ofNat 32 (64 * k.val)) := by
  revert c k; decide +kernel
theorem off_z (c : Dev nD) (k : Fin 16) : k0_off3 c (BitVec.ofNat 32 (64 * k.val)) = k0_off2 (devZ c) (BitVec.ofNat 32 (64 * k.val)) := by
  revert c k; decide +kernel
theorem off_d (c : Dev nD) (k : Fin 16) : k0_off5 c (BitVec.ofNat 32 (64 * k.val)) = k0_off2 (devX (devZ c)) (BitVec.ofNat 32 (64 * k.val)) := by
  revert c k; decide +kernel
theorem off_y (c : Dev nD) (k : Fin 16) : k0_off1 (devY c) (BitVec.ofNat 32 (64 * k.val)) = k0_off1 c (BitVec.ofNat 32 (64 * k.val)) := by
  revert c k; decide +kernel

theorem xqM_eq (c : Dev nD) (k : Fin 16) : xqM c k = ownM (devX c) k := Memref.slice_unit_congr _ (off_x c k) ..
theorem zqM_eq (c : Dev nD) (k : Fin 16) : zqM c k = ownM (devZ c) k := Memref.slice_unit_congr _ (off_z c k) ..
theorem dqM_eq (c : Dev nD) (k : Fin 16) : dqM c k = ownM (devX (devZ c)) k := Memref.slice_unit_congr _ (off_d c k) ..
theorem zqM_devX (c : Dev nD) (k : Fin 16) : zqM (devX c) k = dqM c k := by rw [zqM_eq, dqM_eq, devX_devZ]
theorem xqM_devZ (c : Dev nD) (k : Fin 16) : xqM (devZ c) k = dqM c k := by rw [xqM_eq, dqM_eq]
theorem xqM_devX (c : Dev nD) (k : Fin 16) : xqM (devX c) k = ownM c k := by rw [xqM_eq, devX_devX]
theorem zqM_devZ (c : Dev nD) (k : Fin 16) : zqM (devZ c) k = ownM c k := by rw [zqM_eq, devZ_devZ]
theorem dqM_devX (c : Dev nD) (k : Fin 16) : dqM (devX c) k = zqM c k := by rw [dqM_eq, zqM_eq, devX_devZ, devX_devX]
theorem dqM_devZ (c : Dev nD) (k : Fin 16) : dqM (devZ c) k = xqM c k := by rw [dqM_eq, xqM_eq, devZ_devZ]

/-! ## The units of a copy -/

theorem N_part (c : Dev nD) (k : Fin 16) : (partM c k).view.dmaCredit = N := rfl
theorem N_recv (k : Fin 16) : (recvM k).view.dmaCredit = N := rfl
theorem N_in (s : Fin 2) : (inM s).view.dmaCredit = N := rfl
theorem N_res (s : Fin 2) : (resM s).view.dmaCredit = N := rfl
theorem N_out (s : Fin 2) : (outM s).view.dmaCredit = N := rfl
theorem N_own (c : Dev nD) (k : Fin 16) : (ownM c k).view.dmaCredit = N := rfl
theorem N_xq (c : Dev nD) (k : Fin 16) : (xqM c k).view.dmaCredit = N := rfl
theorem N_zq (c : Dev nD) (k : Fin 16) : (zqM c k).view.dmaCredit = N := rfl
theorem N_dq (c : Dev nD) (k : Fin 16) : (dqM c k).view.dmaCredit = N := rfl

/-! ## The levels -/

theorem debt_pos {n : ℕ} {f : Fin 16 → GSem nD τ sig} {g : GSem nD τ sig} {i : Unit} (h : 0 < debt n f g i) :
    ∃ k, n ≤ k.val ∧ g = f k := by
  unfold debt at h
  obtain ⟨k, hk, hp⟩ := Pipeline.sum_pos_exists h
  refine ⟨k, (mem_since n k).1 hk, ?_⟩
  by_contra hne
  rw [tallyAt_ne_cell hne] at hp
  exact absurd hp (lt_irrefl 0)

/-- Device `c` may wait on semaphore `x` while it owes what it has not yet sent, when `x` is below all of that. -/
theorem may_wait (c : Dev nD) (x : Cell) (ny no np : ℕ) (h : lev x < 100) (hy : lev x < 2 ∨ 16 ≤ ny) (ho : lev x < 3 + no) :
    levAts L lv ⊢ (MayWait (c : Thread nD τ) (semOf x) () (owe c ny no np) : sProp 𝕄) := by
  refine Pipeline.mayWait_of_levAts (by rw [L_tc]; exact Finset.mem_singleton_self _) fun g i hg => ?_
  have key : ∃ (d : Dev nD) (y : Cell), g = gc d y ∧ lev x < lev y := by
    have hsum : 0 < debt ny (fun k => gc (devY c) (cYr k)) g i + (debt no (fun k => gc (devX c) (cXr k)) g i
      + (debt no (fun k => gc (devZ c) (cZr k)) g i + debt np (fun k => gc (devP c k) (cDr k)) g i)) := hg
    by_cases h1 : 0 < debt ny (fun k => gc (devY c) (cYr k)) g i
    · obtain ⟨k, hk, e⟩ := debt_pos h1
      refine ⟨_, _, e, ?_⟩
      show lev x < 2
      omega
    by_cases h2 : 0 < debt no (fun k => gc (devX c) (cXr k)) g i
    · obtain ⟨k, hk, e⟩ := debt_pos h2
      refine ⟨_, _, e, ?_⟩
      show lev x < 3 + k.val
      omega
    by_cases h3 : 0 < debt no (fun k => gc (devZ c) (cZr k)) g i
    · obtain ⟨k, hk, e⟩ := debt_pos h3
      refine ⟨_, _, e, ?_⟩
      show lev x < 3 + k.val
      omega
    obtain ⟨k, hk, e⟩ := debt_pos (show 0 < debt np (fun k => gc (devP c k) (cDr k)) g i by omega)
    exact ⟨_, _, e, h⟩
  obtain ⟨d, y, rfl, hy'⟩ := key
  refine ⟨by rw [L_tc]; exact Finset.mem_singleton.2 (Subsingleton.elim _ _), ?_⟩
  rw [lv_gc]
  exact hy'.trans_eq (lv_gc d y).symm

/-- Nothing is owed once every chunk is sent. -/
theorem owe_end (c : Dev nD) : owe c 16 16 16 = 0 := by
  unfold owe
  rw [debt_end _ le_rfl, debt_end _ le_rfl, debt_end _ le_rfl, debt_end _ le_rfl]; simp only [add_zero]

/-- A chunk across y is one less to owe. -/
theorem owe_y (c : Dev nD) (k : Fin 16) (no np : ℕ) :
    owe c k.val no np = owe c (k.val + 1) no np + tallyAt (gc (devY c) (cYr k)) () N := by
  unfold owe; rw [debt_take k]; ac_rfl
/-- A finished chunk across x and across z is two less to owe. -/
theorem owe_o (c : Dev nD) (k : Fin 16) (ny np : ℕ) :
    owe c ny k.val np = owe c ny (k.val + 1) np + tallyAt (gc (devZ c) (cZr k)) () N + tallyAt (gc (devX c) (cXr k)) () N := by
  unfold owe
  rw [debt_take k (fun k => gc (devX c) (cXr k)), debt_take k (fun k => gc (devZ c) (cZr k))]; ac_rfl
/-- A passed chunk is one less to owe. -/
theorem owe_p (c : Dev nD) (k : Fin 16) (ny no : ℕ) :
    owe c ny no k.val = owe c ny no (k.val + 1) + tallyAt (gc (devP c k) (cDr k)) () N := by
  unfold owe; rw [debt_take k (fun k => gc (devP c k) (cDr k))]; ac_rfl

end Cert.KernelIdeal.Talk
-- ==== Proof.AtomsIdeal.lean ====
/-
What each part of a chunk's work takes and gives: sending across y, fetching, computing, spreading,
passing on, and the waits.
-/
module

public import proofs.«01_k».proof.Proof.FactsIdeal

@[expose] public section

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (I : Data F)

local notation "𝕄" => MT nD τ sig Unit (Elt F) ℕ UU ℕ

/-- What holds when a program is through. -/
abbrev Post (F : FTy → Type) : Type _ := PUnit.{1} → sProp (MT nD τ sig Unit (Elt F) ℕ UU ℕ)

/-- The right to pay device `c`'s semaphore `x` in round `r`. -/
abbrev tok (c : Dev nD) (x : Cell) (r : ℕ) : sProp 𝕄 := dutyTok ER (gc c x) r 0
/-- Device `c`'s semaphore `x` has reached round `r`. -/
abbrev got (c : Dev nD) (x : Cell) (r : ℕ) : sProp 𝕄 := reached ER (gc c x) r
/-- What every step may use. -/
def env (κ : GSem nD τ sig → ℕ) : sProp 𝕄 := iprop(invs I κ ∗ levAts L lv)
instance env_persistent (κ : GSem nD τ sig → ℕ) : BI.Persistent (env I κ) := by unfold env; infer_instance

/-- The slot of chunk `j`. -/
def slN (j : ℕ) : Fin 2 := ⟨j % 2, Nat.mod_lt _ (by decide)⟩
theorem slN_two (j : ℕ) : slN (j + 2) = slN j := Fin.ext (by show (j + 2) % 2 = j % 2; omega)

theorem chunk_slot (k : Fin 16) : chunk (slot k) (k.val / 2) = k := by revert k; decide
theorem half_lt (k : Fin 16) : k.val / 2 < 8 := by omega

/-! ## What a chunk holds at each stage -/

/-- The places of chunk `k`'s exchange, and the units that the neighbour will pay. -/
abbrev yPos (c : Dev nD) (k : Fin 16) : sProp 𝕄 := iprop(pos c (cYs k) 0 ∗ pos c (cYr k) 0 ∗ unit' c (cYr k))
/-- Not yet sent across y. -/
abbrev yB (c : Dev nD) (k : Fin 16) : sProp 𝕄 :=
  iprop(at' c (partM c k) qL (flat (own I c k)) ∗ any (devY c) (recvM k) ∗ tok c (cYs k) 0 ∗ got c (cYs k) 0
    ∗ tok (devY c) (cYr k) 0 ∗ got (devY c) (cYr k) 0 ∗ yPos c k)
/-- On its way across y. -/
abbrev yU (c : Dev nD) (k : Fin 16) : sProp 𝕄 := iprop(unit' c (cYs k) ∗ yPos c k)
/-- Exchanged across y. -/
abbrev yD (c : Dev nD) (k : Fin 16) : sProp 𝕄 :=
  iprop(pos c (cYs k) 1 ∗ pos c (cYr k) 1 ∗ at' c (partM c k) qL (flat (own I c k)) ∗ at' c (recvM k) fullShare (flat (own I (devY c) k)))

/-- Fetched: the rows at home. -/
abbrev inD (c : Dev nD) (k : Fin 16) : sProp 𝕄 :=
  iprop(at' c (partM c k) fullShare.right (flat (own I c k)) ∗ at' c (residM c k) fullShare (res I c k))
/-- Not yet fetched. -/
abbrev inB (c : Dev nD) (k : Fin 16) : sProp 𝕄 :=
  iprop(inD I c k ∗ tok c (cIn (slot k)) (k.val / 2) ∗ tok c (cRs (slot k)) (k.val / 2))
/-- Being fetched. -/
abbrev inU (c : Dev nD) (k : Fin 16) : sProp 𝕄 := iprop(unit' c (cIn (slot k)) ∗ unit' c (cRs (slot k)))
/-- Chunk `k` in its slots. -/
abbrev full (c : Dev nD) (k : Fin 16) : sProp 𝕄 :=
  iprop(at' c (inM (slot k)) fullShare (flat (own I c k)) ∗ at' c (resM (slot k)) fullShare (res I c k))
/-- Chunk `j`'s slots, free. -/
abbrev freeIn (c : Dev nD) (j : ℕ) : sProp 𝕄 := iprop(any c (inM (slN j)) ∗ any c (resM (slN j)))
/-- The places of chunk `j`'s slots. -/
abbrev inPos (c : Dev nD) (j : ℕ) : sProp 𝕄 :=
  iprop((pos c (cIn (slN j)) (j / 2) ∗ got c (cIn (slN j)) (j / 2)) ∗ pos c (cRs (slN j)) (j / 2) ∗ got c (cRs (slN j)) (j / 2))

/-- The places of finished chunk `k`'s copies. -/
abbrev outPos (c : Dev nD) (k : Fin 16) (r : ℕ) : sProp 𝕄 := iprop(pos c (cXs k) r ∗ pos c (cZs k) r)
/-- Not yet spread. -/
abbrev outB (c : Dev nD) (k : Fin 16) : sProp 𝕄 :=
  iprop(any c (ownM c k) ∗ tok c (cSt (slot k)) (k.val / 2)
    ∗ (any (devX c) (ownM c k) ∗ tok c (cXs k) 0 ∗ got c (cXs k) 0 ∗ tok (devX c) (cXr k) 0 ∗ got (devX c) (cXr k) 0)
    ∗ (any (devZ c) (ownM c k) ∗ tok c (cZs k) 0 ∗ got c (cZs k) 0 ∗ tok (devZ c) (cZr k) 0 ∗ got (devZ c) (cZr k) 0)
    ∗ outPos c k 0)
/-- On its way. -/
abbrev outU (c : Dev nD) (k : Fin 16) : sProp 𝕄 := iprop(unit' c (cSt (slot k)) ∗ unit' c (cXs k) ∗ unit' c (cZs k) ∗ outPos c k 0)
/-- Spread. -/
abbrev outD (c : Dev nD) (k : Fin 16) : sProp 𝕄 := iprop(at' c (ownM c k) fullShare (flat (fin I c k)) ∗ outPos c k 1)
/-- Chunk `j`'s slot for finished rows, free. -/
abbrev freeOut (c : Dev nD) (j : ℕ) : sProp 𝕄 := any c (outM (slN j))
/-- The place of chunk `j`'s slot. -/
abbrev stPos (c : Dev nD) (j : ℕ) : sProp 𝕄 := iprop(pos c (cSt (slN j)) (j / 2) ∗ got c (cSt (slN j)) (j / 2))

/-- The semaphore of the copy that chunk `k` is passed on from. -/
def cG (k : Fin 16) : Cell := if k.val % 2 = 0 then cZr k else cXr k
/-- The semaphore of the copy that is not passed on. -/
def cH (k : Fin 16) : Cell := if k.val % 2 = 0 then cXr k else cZr k
/-- The rows of that copy. -/
def restM (c : Dev nD) (k : Fin 16) : Memref sig .tc .hbm S64x4096 .f32 := if k.val % 2 = 0 then xqM c k else zqM c k
def restV (c : Dev nD) (k : Fin 16) : Vec F S64x4096 .f32 := flat (fin I (if k.val % 2 = 0 then devX c else devZ c) k)

/-- Not yet passed on. -/
abbrev pB (c : Dev nD) (k : Fin 16) : sProp 𝕄 :=
  iprop(pos c (cG k) 0 ∗ unit' c (cG k) ∗ any (devP c k) (passM c k) ∗ tok c (cFs k) 0 ∗ got c (cFs k) 0
    ∗ tok (devP c k) (cDr k) 0 ∗ got (devP c k) (cDr k) 0 ∗ pos c (cFs k) 0)
/-- On its way. -/
abbrev pU (c : Dev nD) (k : Fin 16) : sProp 𝕄 := iprop(pos c (cG k) 1 ∗ unit' c (cFs k) ∗ pos c (cFs k) 0)
/-- Passed on. -/
abbrev pD (c : Dev nD) (k : Fin 16) : sProp 𝕄 :=
  iprop(pos c (cG k) 1 ∗ pos c (cFs k) 1 ∗ at' c (passM c k) fullShare (passV I c k))

/-- The copies to come of chunk `k` that are not passed on. -/
abbrev rB (c : Dev nD) (k : Fin 16) : sProp 𝕄 :=
  iprop((pos c (cH k) 0 ∗ unit' c (cH k)) ∗ pos c (cDr k) 0 ∗ unit' c (cDr k))
/-- They have landed. -/
abbrev rD (c : Dev nD) (k : Fin 16) : sProp 𝕄 :=
  iprop((pos c (cH k) 1 ∗ at' c (restM c k) fullShare (restV I c k))
    ∗ pos c (cDr k) 1 ∗ at' c (dqM c k) fullShare (flat (fin I (devX (devZ c)) k)))

/-! ## The payments, as the payer states them -/

theorem pay_Ys (c : Dev nD) (k : Fin 16) : pay I c 0 0 (cYs k) = at' c (partM c k) qL (flat (own I c k)) := rfl
theorem pay_Yr' (c : Dev nD) (k : Fin 16) : pay I c 0 0 (cYr k) = at' c (recvM k) fullShare (flat (own I (devY c) k)) := rfl
theorem pay_Xs (c : Dev nD) (k : Fin 16) : pay I c 0 0 (cXs k) = at' c (outM (slot k)) qX (flat (fin I c k)) := rfl
theorem pay_Zs (c : Dev nD) (k : Fin 16) : pay I c 0 0 (cZs k) = at' c (outM (slot k)) qZ (flat (fin I c k)) := rfl
theorem pay_Yr (c : Dev nD) (k : Fin 16) : pay I (devY c) 0 0 (cYr k) = at' (devY c) (recvM k) fullShare (flat (own I c k)) := by
  show at' (devY c) (recvM k) fullShare (flat (own I (devY (devY c)) k)) = _
  rw [devY_devY]
theorem pay_Xr (c : Dev nD) (k : Fin 16) : pay I (devX c) 0 0 (cXr k) = at' (devX c) (ownM c k) fullShare (flat (fin I c k)) := by
  show at' (devX c) (xqM (devX c) k) fullShare (flat (fin I (devX (devX c)) k)) = _
  rw [devX_devX, xqM_devX]
theorem pay_Zr (c : Dev nD) (k : Fin 16) : pay I (devZ c) 0 0 (cZr k) = at' (devZ c) (ownM c k) fullShare (flat (fin I c k)) := by
  show at' (devZ c) (zqM (devZ c) k) fullShare (flat (fin I (devZ (devZ c)) k)) = _
  rw [devZ_devZ, zqM_devZ]
theorem pay_Dx (c : Dev nD) (k : Fin 16) : pay I (devX c) 0 0 (cDr k) = at' (devX c) (zqM c k) fullShare (flat (fin I (devZ c) k)) := by
  show at' (devX c) (dqM (devX c) k) fullShare (flat (fin I (devX (devZ (devX c))) k)) = _
  rw [dqM_devX, ← devX_devZ, devX_devX]
theorem pay_Dz (c : Dev nD) (k : Fin 16) : pay I (devZ c) 0 0 (cDr k) = at' (devZ c) (xqM c k) fullShare (flat (fin I (devX c) k)) := by
  show at' (devZ c) (dqM (devZ c) k) fullShare (flat (fin I (devX (devZ (devZ c))) k)) = _
  rw [dqM_devZ, devZ_devZ]

variable (κ : GSem nD τ sig → ℕ) (c : Dev nD) (k : Fin 16) {K : KProg F} {Q : Post F}

/-! ## The parts -/

theorem ySend_step (no np : ℕ) :
    iprop(env I κ ∗ yB I c k ∗ debts c (owe c k.val no np))
      ⊢ iprop(((yU c k ∗ debts c (owe c (k.val + 1) no np)) -∗ runs c K Q) -∗ runs c (ySend c k K) Q) := by
  unfold env ySend
  iintro ⟨⟨#HI, -⟩, ⟨Hs, Hd, Ht, #Hr, Ht', #Hr', HP⟩, HO⟩ Hk
  iapply (step_send I κ c (devY c) (cYs k) (cYr k) (sem_Ys k) (sem_Yr k) rfl rfl rfl rfl (N_recv k)
    (owe c (k.val + 1) no np) (owe_y c k no np) (Entails.of_eq (pay_Ys I c k).symm) (Entails.of_eq (pay_Yr I c k).symm)) $$ [Hs Hd HO Ht Ht']
  · isplitr; · iexact HI
    isplitl [Hs]; · iexact Hs
    isplitl [Hd]; · iexact Hd
    isplitl [HO]; · iexact HO
    isplitl [Ht]; · iexact Ht
    isplitr; · iexact Hr
    isplitl [Ht']; · iexact Ht'
    iexact Hr'
  iintro ⟨Hc, HO⟩
  iapply Hk
  isplitr [HO]
  · isplitl [Hc]; · iexact Hc
    iexact HP
  iexact HO

theorem pay_In : pay I c (k.val / 2) 0 (cIn (slot k)) = iprop(at' c (inM (slot k)) fullShare (flat (own I c k))
    ∗ at' c (partM c k) fullShare.right (flat (own I c k))) := by
  show iprop(at' c (inM (slot k)) fullShare (flat (own I c (chunk (slot k) (k.val / 2)))) ∗ at' c (partM c (chunk (slot k) (k.val / 2))) fullShare.right (flat (own I c (chunk (slot k) (k.val / 2))))) = _
  rw [chunk_slot]
theorem pay_Rs : pay I c (k.val / 2) 0 (cRs (slot k)) = iprop(at' c (resM (slot k)) fullShare (res I c k)
    ∗ at' c (residM c k) fullShare (res I c k)) := by
  show iprop(at' c (resM (slot k)) fullShare (res I c (chunk (slot k) (k.val / 2))) ∗ at' c (residM c (chunk (slot k) (k.val / 2))) fullShare (res I c (chunk (slot k) (k.val / 2)))) = _
  rw [chunk_slot]
theorem pay_St : pay I c (k.val / 2) 0 (cSt (slot k)) = iprop(at' c (ownM c k) fullShare (flat (fin I c k))
    ∗ at' c (outM (slot k)) qL (flat (fin I c k))) := by
  show iprop(at' c (ownM c (chunk (slot k) (k.val / 2))) fullShare (flat (fin I c (chunk (slot k) (k.val / 2)))) ∗ at' c (outM (slot k)) qL (flat (fin I c (chunk (slot k) (k.val / 2))))) = _
  rw [chunk_slot]

theorem fetch_step :
    iprop(env I κ ∗ inB I c k ∗ freeIn c k.val ∗ inPos c k.val)
      ⊢ iprop(((inU c k ∗ inPos c k.val) -∗ runs c K Q) -∗ runs c (fetch c k K) Q) := by
  unfold env fetch
  iintro ⟨⟨#HI, -⟩, ⟨⟨Hs, Hs'⟩, Ht, Ht'⟩, ⟨Hd, Hd'⟩, ⟨Hp, #Hr⟩, Hp', #Hr'⟩ Hk
  iapply (step_copy I κ c (cIn (slot k)) (k.val / 2) (sem_In (slot k)) (dut_sl 0 (slot k) _ (half_lt k)) rfl (N_in (slot k))
    (Entails.of_eq (pay_In I c k).symm)) $$ [Hs Hd Ht]
  · isplitr; · iexact HI
    isplitl [Hs]; · iexact Hs
    isplitl [Hd]; · iexact Hd
    isplitl [Ht]; · iexact Ht
    iexact Hr
  iintro Hc
  iapply (step_copy I κ c (cRs (slot k)) (k.val / 2) (sem_Rs (slot k)) (dut_sl 1 (slot k) _ (half_lt k)) rfl (N_res (slot k))
    (Entails.of_eq (pay_Rs I c k).symm)) $$ [Hs' Hd' Ht']
  · isplitr; · iexact HI
    isplitl [Hs']; · iexact Hs'
    isplitl [Hd']; · iexact Hd'
    isplitl [Ht']; · iexact Ht'
    iexact Hr'
  iintro Hc'
  iapply Hk
  isplitl [Hc Hc']
  · isplitl [Hc]; · iexact Hc
    iexact Hc'
  isplitl [Hp]
  · isplitl [Hp]; · iexact Hp
    iexact Hr
  isplitl [Hp']; · iexact Hp'
  iexact Hr'

theorem fetched_step (ny no np : ℕ) :
    iprop(env I κ ∗ inU c k ∗ inPos c k.val ∗ debts c (owe c ny no np))
      ⊢ iprop(((inD I c k ∗ full I c k ∗ inPos c (k.val + 2) ∗ debts c (owe c ny no np)) -∗ runs c K Q) -∗ runs c (fetched c k K) Q) := by
  unfold env fetched inPos
  rw [slN_two, show (k.val + 2) / 2 = k.val / 2 + 1 by omega]
  iintro ⟨⟨#HI, #HL⟩, ⟨Hc, Hc'⟩, ⟨⟨Hp, -⟩, Hp', -⟩, HO⟩ Hk
  iapply (step_wait I κ c (cIn (slot k)) (k.val / 2) (sem_In (slot k)) (dut_sl 0 (slot k) _ (half_lt k)) rfl (N_in (slot k))) $$ [Hc HO Hp]
  · isplitr; · iexact HI
    isplitl [Hc]; · iexact Hc
    isplitl [HO]; · iexact HO
    isplitr
    · iapply (may_wait c (cIn (slot k)) ny no np (by show 0 < 100; decide) (.inl (by show 0 < 2; decide)) (by show 0 < 3 + no; omega)); iexact HL
    iexact Hp
  rw [pay_In]
  iintro ⟨HO, Hp, Hr, Hd, Hs⟩
  iapply (step_wait I κ c (cRs (slot k)) (k.val / 2) (sem_Rs (slot k)) (dut_sl 1 (slot k) _ (half_lt k)) rfl (N_res (slot k))) $$ [Hc' HO Hp']
  · isplitr; · iexact HI
    isplitl [Hc']; · iexact Hc'
    isplitl [HO]; · iexact HO
    isplitr
    · iapply (may_wait c (cRs (slot k)) ny no np (by show 0 < 100; decide) (.inl (by show 0 < 2; decide)) (by show 0 < 3 + no; omega)); iexact HL
    iexact Hp'
  rw [pay_Rs]
  iintro ⟨HO, Hp', Hr', Hd', Hs'⟩
  iapply Hk
  isplitl [Hs Hs']
  · isplitl [Hs]; · iexact Hs
    iexact Hs'
  isplitl [Hd Hd']
  · isplitl [Hd]; · iexact Hd
    iexact Hd'
  isplitr [HO]
  · isplitl [Hp Hr]
    · isplitl [Hp]; · iexact Hp
      iexact Hr
    isplitl [Hp']; · iexact Hp'
    iexact Hr'
  iexact HO

theorem exchanged_step (no np : ℕ) :
    iprop(env I κ ∗ yU c k ∗ debts c (owe c 16 no np))
      ⊢ iprop(((yD I c k ∗ debts c (owe c 16 no np)) -∗ runs c K Q) -∗ runs c (exchanged c k K) Q) := by
  unfold env exchanged
  iintro ⟨⟨#HI, #HL⟩, ⟨Hc, Hp, Hp', Hc'⟩, HO⟩ Hk
  iapply (step_wait I κ c (cYr k) 0 (sem_Yr k) rfl rfl (N_recv k)) $$ [Hc' HO Hp']
  · isplitr; · iexact HI
    isplitl [Hc']; · iexact Hc'
    isplitl [HO]; · iexact HO
    isplitr
    · iapply (may_wait c (cYr k) 16 no np (by show 2 < 100; decide) (.inr le_rfl) (by show 2 < 3 + no; omega)); iexact HL
    iexact Hp'
  rw [pay_Yr']
  iintro ⟨HO, Hp', -, Hd⟩
  iapply (step_wait I κ c (cYs k) 0 (sem_Ys k) rfl rfl (N_part c k)) $$ [Hc HO Hp]
  · isplitr; · iexact HI
    isplitl [Hc]; · iexact Hc
    isplitl [HO]; · iexact HO
    isplitr
    · iapply (may_wait c (cYs k) 16 no np (by show 0 < 100; decide) (.inr le_rfl) (by show 0 < 3 + no; omega)); iexact HL
    iexact Hp
  rw [pay_Ys]
  iintro ⟨HO, Hp, -, Hs⟩
  iapply Hk
  isplitr [HO]
  · isplitl [Hp]; · iexact Hp
    isplitl [Hp']; · iexact Hp'
    isplitl [Hs]; · iexact Hs
    iexact Hd
  iexact HO

/-- The three shares of a finished slot make it whole. -/
theorem out_shares (s : Fin 2) (X : Vec F S64x4096 .f32) :
    (iprop(at' c (outM s) qL X ∗ at' c (outM s) qX X ∗ at' c (outM s) qZ X) : sProp 𝕄) ⊣⊢ at' c (outM s) fullShare X :=
  ((owns_halves _ _ _ _).trans (sep_congr .rfl (owns_halves _ _ _ _))).symm

theorem drained_step (ny no np : ℕ) :
    iprop(env I κ ∗ outU c k ∗ stPos c k.val ∗ debts c (owe c ny no np))
      ⊢ iprop(((outD I c k ∗ freeOut c k.val ∗ stPos c (k.val + 2) ∗ debts c (owe c ny no np)) -∗ runs c K Q)
          -∗ runs c (drained c k K) Q) := by
  unfold env drained stPos
  rw [slN_two, show (k.val + 2) / 2 = k.val / 2 + 1 by omega]
  iintro ⟨⟨#HI, #HL⟩, ⟨Hc, Hcx, Hcz, Hpx, Hpz⟩, ⟨Hp, -⟩, HO⟩ Hk
  iapply (step_wait I κ c (cXs k) 0 (sem_Xs k) rfl rfl (N_out (slot k))) $$ [Hcx HO Hpx]
  · isplitr; · iexact HI
    isplitl [Hcx]; · iexact Hcx
    isplitl [HO]; · iexact HO
    isplitr
    · iapply (may_wait c (cXs k) ny no np (by show 0 < 100; decide) (.inl (by show 0 < 2; decide)) (by show 0 < 3 + no; omega)); iexact HL
    iexact Hpx
  rw [pay_Xs]
  iintro ⟨HO, Hpx, -, Hx⟩
  iapply (step_wait I κ c (cZs k) 0 (sem_Zs k) rfl rfl (N_out (slot k))) $$ [Hcz HO Hpz]
  · isplitr; · iexact HI
    isplitl [Hcz]; · iexact Hcz
    isplitl [HO]; · iexact HO
    isplitr
    · iapply (may_wait c (cZs k) ny no np (by show 0 < 100; decide) (.inl (by show 0 < 2; decide)) (by show 0 < 3 + no; omega)); iexact HL
    iexact Hpz
  rw [pay_Zs]
  iintro ⟨HO, Hpz, -, Hz⟩
  iapply (step_wait I κ c (cSt (slot k)) (k.val / 2) (sem_St (slot k)) (dut_sl 2 (slot k) _ (half_lt k)) rfl (N_own c k)) $$ [Hc HO Hp]
  · isplitr; · iexact HI
    isplitl [Hc]; · iexact Hc
    isplitl [HO]; · iexact HO
    isplitr
    · iapply (may_wait c (cSt (slot k)) ny no np (by show 0 < 100; decide) (.inl (by show 0 < 2; decide)) (by show 0 < 3 + no; omega)); iexact HL
    iexact Hp
  rw [pay_St]
  iintro ⟨HO, Hp, Hr, Hd, Hl⟩
  iapply Hk
  isplitl [Hd Hpx Hpz]
  · isplitl [Hd]; · iexact Hd
    isplitl [Hpx]; · iexact Hpx
    iexact Hpz
  isplitl [Hl Hx Hz]
  · iapply (any_of c (outM (slot k)) (flat (fin I c k)))
    iapply (out_shares c (slot k) (flat (fin I c k))).1
    isplitl [Hl]; · iexact Hl
    isplitl [Hx]; · iexact Hx
    iexact Hz
  isplitr [HO]
  · isplitl [Hp]; · iexact Hp
    iexact Hr
  iexact HO

theorem spread_step (ny np : ℕ) :
    iprop(env I κ ∗ outB c k ∗ at' c (outM (slot k)) fullShare (flat (fin I c k)) ∗ got c (cSt (slot k)) (k.val / 2) ∗ debts c (owe c ny k.val np))
      ⊢ iprop(((outU c k ∗ debts c (owe c ny (k.val + 1) np)) -∗ runs c K Q) -∗ runs c (spread c k K) Q) := by
  unfold env spread
  iintro ⟨⟨#HI, -⟩, ⟨Hd, Ht, ⟨Hdx, Htx, #Hrx, Htx', #Hrx'⟩, ⟨Hdz, Htz, #Hrz, Htz', #Hrz'⟩, HP⟩, Hs, #Hr, HO⟩ Hk
  ihave Hs := (out_shares c (slot k) (flat (fin I c k))).2 $$ Hs
  icases Hs with ⟨Hl, Hx, Hz⟩
  iapply (step_copy I κ c (cSt (slot k)) (k.val / 2) (sem_St (slot k)) (dut_sl 2 (slot k) _ (half_lt k)) rfl (N_own c k)
    (Entails.of_eq (pay_St I c k).symm)) $$ [Hl Hd Ht]
  · isplitr; · iexact HI
    isplitl [Hl]; · iexact Hl
    isplitl [Hd]; · iexact Hd
    isplitl [Ht]; · iexact Ht
    iexact Hr
  iintro Hc
  iapply (step_send I κ c (devX c) (cXs k) (cXr k) (sem_Xs k) (sem_Xr k) rfl rfl rfl rfl (N_own c k)
    _ (owe_o c k ny np) (Entails.of_eq (pay_Xs I c k).symm) (Entails.of_eq (pay_Xr I c k).symm)) $$ [Hx Hdx HO Htx Htx']
  · isplitr; · iexact HI
    isplitl [Hx]; · iexact Hx
    isplitl [Hdx]; · iexact Hdx
    isplitl [HO]; · iexact HO
    isplitl [Htx]; · iexact Htx
    isplitr; · iexact Hrx
    isplitl [Htx']; · iexact Htx'
    iexact Hrx'
  iintro ⟨Hcx, HO⟩
  iapply (step_send I κ c (devZ c) (cZs k) (cZr k) (sem_Zs k) (sem_Zr k) rfl rfl rfl rfl (N_own c k)
    (owe c ny (k.val + 1) np) rfl (Entails.of_eq (pay_Zs I c k).symm) (Entails.of_eq (pay_Zr I c k).symm)) $$ [Hz Hdz HO Htz Htz']
  · isplitr; · iexact HI
    isplitl [Hz]; · iexact Hz
    isplitl [Hdz]; · iexact Hdz
    isplitl [HO]; · iexact HO
    isplitl [Htz]; · iexact Htz
    isplitr; · iexact Hrz
    isplitl [Htz']; · iexact Htz'
    iexact Hrz'
  iintro ⟨Hcz, HO⟩
  iapply Hk
  isplitr [HO]
  · isplitl [Hc]; · iexact Hc
    isplitl [Hcx]; · iexact Hcx
    isplitl [Hcz]; · iexact Hcz
    iexact HP
  iexact HO

end Cert.KernelIdeal.Talk
-- ==== Proof.PartsIdeal.lean ====
/-
The remaining parts of a chunk's work: computing the finished rows, passing on, and the last waits.
-/
module

public import proofs.«01_k».proof.Proof.AtomsIdeal

@[expose] public section

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (I : Data F)

local notation "𝕄" => MT nD τ sig Unit (Elt F) ℕ UU ℕ

variable (κ : GSem nD τ sig → ℕ) (c : Dev nD) (k : Fin 16) {K : KProg F} {Q : Post F}

/-- The device's weights in their staging buffer. -/
abbrev gam (c : Dev nD) : sProp 𝕄 := at' c (stage0_0 0) fullShare (I.gamma c)

/-- A load of the whole staging buffer of the weights. -/
theorem load_gam {hl : (stage0_0 0).view.LoadsAt (Rect.unit (s := S1x4096) ![0, 0] S1x4096.size inb_S1x4096_S1x4096_0_0).toLoadRect}
    {J : ((Rect.unit (s := S1x4096) ![0, 0] S1x4096.size inb_S1x4096_S1x4096_0_0).shape.Idx → Elt F .f32) → KProg F} :
    gam I c ⊢ iprop((gam I c -∗ runs c (J (I.gamma c)) Q)
      -∗ runs c (.op (.load (stage0_0 0) (Rect.unit (s := S1x4096) ![0, 0] S1x4096.size inb_S1x4096_S1x4096_0_0).toLoadRect hl) J) Q) := by
  unfold gam at' owns
  iintro ⟨%f, %hf, H⟩ Hk
  have hX : ((stage0_0 0).access (Rect.unit (s := S1x4096) ![0, 0] S1x4096.size inb_S1x4096_S1x4096_0_0)).read (Elt F) f = I.gamma c := by
    rw [← hf]
    funext j
    show (stage0_0 0).view.read (Elt F) f ((Rect.unit (s := S1x4096) ![0, 0] S1x4096.size inb_S1x4096_S1x4096_0_0).emb j) = _
    congr 1
    funext a
    refine Fin.ext ?_
    show (![0, 0] : Fin 2 → ℕ) a + 1 * (j a).val = (j a).val
    have : (![0, 0] : Fin 2 → ℕ) a = 0 := by revert a; decide
    rw [this]; omega
  iapply (wp_load_rect Variants.none (c : Thread nD τ) none Set.univ (m := stage0_0 0)
    (r := Rect.unit (s := S1x4096) ![0, 0] S1x4096.size inb_S1x4096_S1x4096_0_0)
    (S := (stage0_0 0).view.set) (q := fullShare) (f := f) (View.set_slice_subset _ _)) $$ H
  rw [hX]
  iintro H
  iapply Hk
  iexists f
  isplitr; · ipureintro; exact hf
  iexact H

/-- Rows that hold anything hold something. -/
theorem any_some (s : Fin 2) : any c (outM s) ⊢ (iprop(∃ X : Vec F S1x64x4096 .f32, at' c (outM s) fullShare (flat X)) : sProp 𝕄) := by
  unfold any at' ownsSat owns
  iintro ⟨%f, -, H⟩
  iexists (unflat ((outM s).view.read (Elt F) f))
  iexists f
  isplitr; · ipureintro; exact (flat_unflat _).symm
  iexact H

theorem load_in (s : Fin 2) (X : Vec F S1x64x4096 .f32) {hl} {J : (S1x64x4096.Idx → Elt F .f32) → KProg F} :
    at' c (inM s) fullShare (flat X) ⊢ iprop((at' c (inM s) fullShare (flat X) -∗ runs c (J X) Q)
      -∗ runs c (.op (.load (Memref.whole cc0_scratch1 : Memref sig .tc .vmem S2x64x4096 .f32) (slotR s).toLoadRect hl) J) Q) :=
  step_load c (r := slotR s) (X := X) (hc := shapeCasts_S1x64x4096_S64x4096)
theorem load_res (s : Fin 2) (X : Vec F S1x64x4096 .f32) {hl} {J : (S1x64x4096.Idx → Elt F .f32) → KProg F} :
    at' c (resM s) fullShare (flat X) ⊢ iprop((at' c (resM s) fullShare (flat X) -∗ runs c (J X) Q)
      -∗ runs c (.op (.load (Memref.whole cc0_scratch2 : Memref sig .tc .vmem S2x64x4096 .f32) (slotR s).toLoadRect hl) J) Q) :=
  step_load c (r := slotR s) (X := X) (hc := shapeCasts_S1x64x4096_S64x4096)
theorem load_out (s : Fin 2) (X : Vec F S1x64x4096 .f32) {hl} {J : (S1x64x4096.Idx → Elt F .f32) → KProg F} :
    at' c (outM s) fullShare (flat X) ⊢ iprop((at' c (outM s) fullShare (flat X) -∗ runs c (J X) Q)
      -∗ runs c (.op (.load (Memref.whole cc0_scratch3 : Memref sig .tc .vmem S2x64x4096 .f32) (slotR s).toLoadRect hl) J) Q) :=
  step_load c (r := slotR s) (X := X) (hc := shapeCasts_S1x64x4096_S64x4096)
theorem load_recv (X : Vec F S1x64x4096 .f32) {hl} {J : (S1x64x4096.Idx → Elt F .f32) → KProg F} :
    at' c (recvM k) fullShare (flat X) ⊢ iprop((at' c (recvM k) fullShare (flat X) -∗ runs c (J X) Q)
      -∗ runs c (.op (.load (Memref.whole cc0_scratch0 : Memref sig .tc .vmem S16x64x4096 .f32) (recvR k).toLoadRect hl) J) Q) :=
  step_load c (r := recvR k) (X := X) (hc := shapeCasts_S1x64x4096_S64x4096)
theorem store_out (s : Fin 2) (X : Vec F S1x64x4096 .f32) {hx hm} {J : PUnit → KProg F} :
    any c (outM s) ⊢ iprop((at' c (outM s) fullShare (flat X) -∗ runs c (J ⟨⟩) Q)
      -∗ runs c (.op (.store (Memref.whole cc0_scratch3 : Memref sig .tc .vmem S2x64x4096 .f32) (slotR s) X Finset.univ hx hm) J) Q) :=
  step_store c (r := slotR s) (hc := shapeCasts_S1x64x4096_S64x4096)

theorem compute_step :
    iprop(at' c (recvM k) fullShare (flat (own I (devY c) k)) ∗ full I c k ∗ freeOut c k.val ∗ gam I c)
      ⊢ iprop(((at' c (recvM k) fullShare (flat (own I (devY c) k)) ∗ freeIn c k.val ∗ at' c (outM (slot k)) fullShare (flat (fin I c k)) ∗ gam I c)
          -∗ runs c K Q) -∗ runs c (compute k K) Q) := by
  unfold compute
  iintro ⟨Hp, ⟨Hi, Hr⟩, Ho, Hg⟩ Hk
  iapply (load_in c (slot k) (own I c k)) $$ Hi
  iintro Hi
  iapply (load_recv c k (own I (devY c) k)) $$ Hp
  iintro Hp
  ihave Hr := (Entails.of_eq (congrArg (at' c (resM (slot k)) fullShare) (flat_unflat (res I c k)).symm)) $$ Hr
  iapply (load_res c (slot k) (unflat (res I c k))) $$ Hr
  iintro Hr
  iapply (load_gam I c) $$ Hg
  iintro Hg
  ihave Ho := (Entails.of_eq (show freeOut c k.val = any c (outM (slot k)) from rfl)) $$ Ho
  ihave Ho := (any_some c (slot k)) $$ Ho
  icases Ho with ⟨%X, Ho⟩
  iapply (load_out c (slot k) X) $$ Ho
  iintro Ho
  ihave Ho := (any_of c (outM (slot k)) (flat X)) $$ Ho
  iapply (store_out c (slot k) (fin I c k)) $$ Ho
  iintro Ho
  iapply Hk
  isplitl [Hp]; · iexact Hp
  isplitl [Hi Hr]
  · isplitl [Hi]
    · iapply (any_of c (inM (slot k)) (flat (own I c k))); iexact Hi
    · iapply (any_of c (resM (slot k)) (flat (unflat (res I c k)))); iexact Hr
  isplitl [Ho]; · iexact Ho
  iexact Hg

/-! ## Passing on -/

theorem gotZ_step (ny np : ℕ) (hy : 16 ≤ ny) (no : ℕ) (ho : k.val < no) :
    iprop(env I κ ∗ pos c (cZr k) 0 ∗ unit' c (cZr k) ∗ debts c (owe c ny no np))
      ⊢ iprop(((pos c (cZr k) 1 ∗ at' c (zqM c k) fullShare (flat (fin I (devZ c) k)) ∗ debts c (owe c ny no np)) -∗ runs c K Q)
          -∗ runs c (gotZ c k K) Q) := by
  unfold env gotZ
  iintro ⟨⟨#HI, #HL⟩, Hp, Hc, HO⟩ Hk
  iapply (step_wait I κ c (cZr k) 0 (sem_Zr k) rfl rfl (N_zq c k)) $$ [Hc HO Hp]
  · isplitr; · iexact HI
    isplitl [Hc]; · iexact Hc
    isplitl [HO]; · iexact HO
    isplitr
    · iapply (may_wait c (cZr k) ny no np (by show 3 + k.val < 100; omega) (.inr hy) (by show 3 + k.val < 3 + no; omega)); iexact HL
    iexact Hp
  iintro ⟨HO, Hp, -, Hd⟩
  iapply Hk
  isplitl [Hp]; · iexact Hp
  isplitl [Hd]; · iapply (Entails.of_eq (show pay I c 0 0 (cZr k) = at' c (zqM c k) fullShare (flat (fin I (devZ c) k)) from rfl)) $$ Hd
  iexact HO

theorem gotX_step (ny np : ℕ) (hy : 16 ≤ ny) (no : ℕ) (ho : k.val < no) :
    iprop(env I κ ∗ pos c (cXr k) 0 ∗ unit' c (cXr k) ∗ debts c (owe c ny no np))
      ⊢ iprop(((pos c (cXr k) 1 ∗ at' c (xqM c k) fullShare (flat (fin I (devX c) k)) ∗ debts c (owe c ny no np)) -∗ runs c K Q)
          -∗ runs c (gotX c k K) Q) := by
  unfold env gotX
  iintro ⟨⟨#HI, #HL⟩, Hp, Hc, HO⟩ Hk
  iapply (step_wait I κ c (cXr k) 0 (sem_Xr k) rfl rfl (N_xq c k)) $$ [Hc HO Hp]
  · isplitr; · iexact HI
    isplitl [Hc]; · iexact Hc
    isplitl [HO]; · iexact HO
    isplitr
    · iapply (may_wait c (cXr k) ny no np (by show 3 + k.val < 100; omega) (.inr hy) (by show 3 + k.val < 3 + no; omega)); iexact HL
    iexact Hp
  iintro ⟨HO, Hp, -, Hd⟩
  iapply Hk
  isplitl [Hp]; · iexact Hp
  isplitl [Hd]; · iapply (Entails.of_eq (show pay I c 0 0 (cXr k) = at' c (xqM c k) fullShare (flat (fin I (devX c) k)) from rfl)) $$ Hd
  iexact HO

/-- Nothing is owed at the end. -/
theorem gotD_step :
    iprop(env I κ ∗ pos c (cDr k) 0 ∗ unit' c (cDr k) ∗ debts c 0)
      ⊢ iprop(((pos c (cDr k) 1 ∗ at' c (dqM c k) fullShare (flat (fin I (devX (devZ c)) k)) ∗ debts c 0) -∗ runs c K Q)
          -∗ runs c (gotD c k K) Q) := by
  unfold env gotD
  iintro ⟨⟨#HI, #HL⟩, Hp, Hc, HO⟩ Hk
  iapply (step_wait I κ c (cDr k) 0 (sem_Dr k) rfl rfl (N_dq c k)) $$ [Hc HO Hp]
  · isplitr; · iexact HI
    isplitl [Hc]; · iexact Hc
    isplitl [HO]; · iexact HO
    isplitr
    · rw [MayWait_zero]; iempintro
    iexact Hp
  iintro ⟨HO, Hp, -, Hd⟩
  iapply Hk
  isplitl [Hp]; · iexact Hp
  isplitl [Hd]; · iapply (Entails.of_eq (show pay I c 0 0 (cDr k) = at' c (dqM c k) fullShare (flat (fin I (devX (devZ c)) k)) from rfl)) $$ Hd
  iexact HO

/-- What is passed on comes back to its rows once it has been read. -/
theorem pay_Fs : pay I c 0 0 (cFs k) = at' c (passM c k) fullShare (passV I c k) := rfl

theorem pass_step (no : ℕ) (ho : k.val < no) :
    iprop(env I κ ∗ pB c k ∗ debts c (owe c 16 no k.val))
      ⊢ iprop(((pU c k ∗ debts c (owe c 16 no (k.val + 1))) -∗ runs c K Q) -∗ runs c (pass c k K) Q) := by
  by_cases h : k.val % 2 = 0
  · have eM : passM c k = zqM c k := if_pos h
    have eV : passV I c k = flat (fin I (devZ c) k) := by unfold passV; rw [if_pos h]
    have eP : devP c k = devX c := if_pos h
    have eG : cG k = cZr k := if_pos h
    have eO := owe_p c k 16 no
    rw [eP] at eO
    have eF := pay_Fs I c k
    rw [eM, eV] at eF
    unfold pass pB pU
    rw [if_pos h, eM, eP, eG]
    unfold passX
    iintro ⟨#HE, ⟨Hp, Hc, Hd, Ht, #Hr, Ht', #Hr', HP⟩, HO⟩ Hk
    iapply (gotZ_step I κ c k 16 k.val le_rfl no ho) $$ [Hp Hc HO]
    · isplitr; · iexact HE
      isplitl [Hp]; · iexact Hp
      isplitl [Hc]; · iexact Hc
      iexact HO
    iintro ⟨Hp, Hs, HO⟩
    iapply (step_send I κ c (devX c) (cFs k) (cDr k) (sem_Fs k) (sem_Dr k) rfl rfl rfl rfl (N_zq c k)
      (owe c 16 no (k.val + 1)) eO (Entails.of_eq eF.symm) (Entails.of_eq (pay_Dx I c k).symm)) $$ [Hs Hd HO Ht Ht']
    · isplitr; · unfold env; icases HE with ⟨#HI, -⟩; iexact HI
      isplitl [Hs]; · iexact Hs
      isplitl [Hd]; · iexact Hd
      isplitl [HO]; · iexact HO
      isplitl [Ht]; · iexact Ht
      isplitr; · iexact Hr
      isplitl [Ht']; · iexact Ht'
      iexact Hr'
    iintro ⟨Hc, HO⟩
    iapply Hk
    isplitr [HO]
    · isplitl [Hp]; · iexact Hp
      isplitl [Hc]; · iexact Hc
      iexact HP
    iexact HO
  · have eM : passM c k = xqM c k := if_neg h
    have eV : passV I c k = flat (fin I (devX c) k) := by unfold passV; rw [if_neg h]
    have eP : devP c k = devZ c := if_neg h
    have eG : cG k = cXr k := if_neg h
    have eO := owe_p c k 16 no
    rw [eP] at eO
    have eF := pay_Fs I c k
    rw [eM, eV] at eF
    unfold pass pB pU
    rw [if_neg h, eM, eP, eG]
    unfold passZ
    iintro ⟨#HE, ⟨Hp, Hc, Hd, Ht, #Hr, Ht', #Hr', HP⟩, HO⟩ Hk
    iapply (gotX_step I κ c k 16 k.val le_rfl no ho) $$ [Hp Hc HO]
    · isplitr; · iexact HE
      isplitl [Hp]; · iexact Hp
      isplitl [Hc]; · iexact Hc
      iexact HO
    iintro ⟨Hp, Hs, HO⟩
    iapply (step_send I κ c (devZ c) (cFs k) (cDr k) (sem_Fs k) (sem_Dr k) rfl rfl rfl rfl (N_xq c k)
      (owe c 16 no (k.val + 1)) eO (Entails.of_eq eF.symm) (Entails.of_eq (pay_Dz I c k).symm)) $$ [Hs Hd HO Ht Ht']
    · isplitr; · unfold env; icases HE with ⟨#HI, -⟩; iexact HI
      isplitl [Hs]; · iexact Hs
      isplitl [Hd]; · iexact Hd
      isplitl [HO]; · iexact HO
      isplitl [Ht]; · iexact Ht
      isplitr; · iexact Hr
      isplitl [Ht']; · iexact Ht'
      iexact Hr'
    iintro ⟨Hc, HO⟩
    iapply Hk
    isplitr [HO]
    · isplitl [Hp]; · iexact Hp
      isplitl [Hc]; · iexact Hc
      iexact HP
    iexact HO

theorem passed_step :
    iprop(env I κ ∗ pU c k ∗ debts c 0)
      ⊢ iprop(((pD I c k ∗ debts c 0) -∗ runs c K Q) -∗ runs c (passed c k K) Q) := by
  have key : ∀ {m : Memref sig .tc .hbm S64x4096 .f32} {h1 h2 : m.view.WordExact}, m.view.dmaCredit = N →
      iprop(env I κ ∗ pU c k ∗ debts c 0)
      ⊢ iprop(((pD I c k ∗ debts c 0) -∗ runs c K Q)
        -∗ runs c (.op (.waitDma2 (sem16 cc0_scratch10 k) m m h1 h2) fun _ => K) Q) := fun hN => by
    unfold env
    iintro ⟨⟨#HI, #HL⟩, ⟨HG, Hc, Hp⟩, HO⟩ Hk
    iapply (step_wait I κ c (cFs k) 0 (sem_Fs k) rfl rfl hN) $$ [Hc HO Hp]
    · isplitr; · iexact HI
      isplitl [Hc]; · iexact Hc
      isplitl [HO]; · iexact HO
      isplitr
      · rw [MayWait_zero]; iempintro
      iexact Hp
    rw [pay_Fs]
    iintro ⟨HO, Hp, -, Hd⟩
    iapply Hk
    isplitr [HO]
    · isplitl [HG]; · iexact HG
      isplitl [Hp]; · iexact Hp
      iexact Hd
    iexact HO
  unfold passed
  split
  · exact key (N_zq c k)
  · exact key (N_xq c k)

theorem landed_step :
    iprop(env I κ ∗ rB c k ∗ debts c 0)
      ⊢ iprop(((rD I c k ∗ debts c 0) -∗ runs c K Q) -∗ runs c (landed c k K) Q) := by
  have first : iprop(env I κ ∗ (pos c (cH k) 0 ∗ unit' c (cH k)) ∗ debts c 0)
      ⊢ iprop((((pos c (cH k) 1 ∗ at' c (restM c k) fullShare (restV I c k)) ∗ debts c 0) -∗ runs c (gotD c k K) Q)
        -∗ runs c (landed c k K) Q) := by
    rw [← owe_end c]
    unfold landed
    by_cases h : k.val % 2 = 0
    · have eM : restM c k = xqM c k := if_pos h
      have eV : restV I c k = flat (fin I (devX c) k) := by unfold restV; rw [if_pos h]
      have eH : cH k = cXr k := if_pos h
      rw [if_pos h, eM, eV, eH]
      iintro ⟨#HE, ⟨Hp, Hc⟩, HO⟩ Hk
      iapply (gotX_step I κ c k 16 16 le_rfl 16 k.isLt) $$ [Hp Hc HO]
      · isplitr; · iexact HE
        isplitl [Hp]; · iexact Hp
        isplitl [Hc]; · iexact Hc
        iexact HO
      iintro ⟨Hp, Hd, HO⟩
      iapply Hk
      isplitr [HO]
      · isplitl [Hp]; · iexact Hp
        iexact Hd
      iexact HO
    · have eM : restM c k = zqM c k := if_neg h
      have eV : restV I c k = flat (fin I (devZ c) k) := by unfold restV; rw [if_neg h]
      have eH : cH k = cZr k := if_neg h
      rw [if_neg h, eM, eV, eH]
      iintro ⟨#HE, ⟨Hp, Hc⟩, HO⟩ Hk
      iapply (gotZ_step I κ c k 16 16 le_rfl 16 k.isLt) $$ [Hp Hc HO]
      · isplitr; · iexact HE
        isplitl [Hp]; · iexact Hp
        isplitl [Hc]; · iexact Hc
        iexact HO
      iintro ⟨Hp, Hd, HO⟩
      iapply Hk
      isplitr [HO]
      · isplitl [Hp]; · iexact Hp
        iexact Hd
      iexact HO
  iintro ⟨#HE, ⟨HH, Hp, Hc⟩, HO⟩ Hk
  iapply first $$ [HH HO]
  · isplitr; · iexact HE
    isplitl [HH]; · iexact HH
    iexact HO
  iintro ⟨HH, HO⟩
  iapply (gotD_step I κ c k) $$ [Hp Hc HO]
  · isplitr; · iexact HE
    isplitl [Hp]; · iexact Hp
    isplitl [Hc]; · iexact Hc
    iexact HO
  iintro ⟨Hp, Hd, HO⟩
  iapply Hk
  isplitr [HO]
  · isplitl [HH]; · iexact HH
    isplitl [Hp]; · iexact Hp
    iexact Hd
  iexact HO

end Cert.KernelIdeal.Talk
-- ==== Proof.RoundIdeal.lean ====
/-
One chunk of the main loop: from what a device holds before chunk `k` to what it holds before the next.
-/
module

public import proofs.«01_k».proof.Proof.PartsIdeal

@[expose] public section

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (I : Data F)

local notation "𝕄" => MT nD τ sig Unit (Elt F) ℕ UU ℕ

variable (κ : GSem nD τ sig → ℕ) (c : Dev nD) (k : Fin 16) {K : KProg F} {Q : Post F}

/-- The exchange across y: chunks before `a` are through, those before `b` sent. -/
def yAll (c : Dev nD) (a b : ℕ) : sProp 𝕄 := phase a b (yD I c) (yU c) (yB I c)
/-- The fetches. -/
def inAll (c : Dev nD) (a b : ℕ) : sProp 𝕄 := phase a b (inD I c) (inU c) (inB I c)
/-- The finished chunks. -/
def outAll (c : Dev nD) (a b : ℕ) : sProp 𝕄 := phase a b (outD I c) (outU c) (outB c)
/-- The passed chunks. -/
def pAll (c : Dev nD) (a b : ℕ) : sProp 𝕄 := phase a b (pD I c) (pU c) (pB c)

/-- The fetched chunks' slots before chunk `k`: the places of this chunk and the next, and the slots that the next one takes. -/
def inRest (c : Dev nD) (k : ℕ) : sProp 𝕄 :=
  iprop(inPos c k ∗ inPos c (k + 1) ∗ freeIn c (k + 1) ∗ if k = 16 then freeIn c 16 else iprop(emp))
/-- The finished chunks' slots before chunk `k`: the places of the last two, and the slots not yet taken. -/
def outRest (c : Dev nD) (k : ℕ) : sProp 𝕄 :=
  iprop((stPos c (k - 2) ∗ stPos c (k - 2 + 1)) ∗ (if k = 0 then freeOut c 0 else iprop(emp)) ∗ if k ≤ 1 then freeOut c 1 else iprop(emp))

/-- What device `c` holds before chunk `k`. -/
def before (c : Dev nD) (k : ℕ) : sProp 𝕄 :=
  iprop(debts c (owe c 16 k (k - 1)) ∗ yAll I c k 16 ∗ (inAll I c k (k + 1) ∗ inRest c k) ∗ (outAll I c (k - 2) k ∗ outRest c k)
    ∗ pAll I c 0 (k - 1) ∗ gam I c)

/-- Fetching the next chunk, if there is one. -/
theorem next_step :
    iprop(env I κ ∗ inAll I c (k.val + 1) (k.val + 1) ∗ freeIn c (k.val + 1) ∗ inPos c (k.val + 1))
      ⊢ iprop(((inAll I c (k.val + 1) (k.val + 1 + 1) ∗ inPos c (k.val + 1) ∗ if k.val + 1 = 16 then freeIn c 16 else iprop(emp)) -∗ runs c K Q)
          -∗ runs c ((if h : k.val + 1 < 16 then fetch c ⟨k.val + 1, h⟩ else id) K) Q) := by
  by_cases h : k.val + 1 < 16
  · rw [dif_pos h, if_neg (by omega)]
    iintro ⟨#HE, HA, HF, HP⟩ Hk
    unfold inAll
    ihave HA := (phase_begin (D := inD I c) (U := inU c) (B := inB I c) (a := k.val + 1) ⟨k.val + 1, h⟩ le_rfl) $$ HA
    icases HA with ⟨HB, HA⟩
    iapply (fetch_step I κ c ⟨k.val + 1, h⟩) $$ [HB HF HP]
    · isplitr; · iexact HE
      isplitl [HB]; · iexact HB
      isplitl [HF]; · iexact HF
      iexact HP
    iintro ⟨HU, HP⟩
    iapply Hk
    isplitl [HA HU]
    · iapply HA; iexact HU
    isplitl [HP]; · iexact HP
    iempintro
  · have e : k.val + 1 = 16 := by omega
    rw [dif_neg h, id_eq, if_pos e, e]
    unfold inAll
    rw [phase_last (a := 16) (b := 16) le_rfl, phase_last (a := 16) (b := 16 + 1) le_rfl]
    iintro ⟨#HE, HA, HF, HP⟩ Hk
    iapply Hk
    isplitl [HA]; · iexact HA
    isplitl [HP]; · iexact HP
    iexact HF

/-- Making sure of a free slot for the finished rows. -/
theorem room_step (ny no np : ℕ) :
    iprop(env I κ ∗ outAll I c (k.val - 2) k.val ∗ outRest c k.val ∗ debts c (owe c ny no np))
      ⊢ iprop(((outAll I c (k.val + 1 - 2) k.val ∗ outRest c (k.val + 1) ∗ freeOut c k.val ∗ got c (cSt (slot k)) (k.val / 2)
            ∗ debts c (owe c ny no np)) -∗ runs c K Q)
          -∗ runs c ((if 2 ≤ k.val then drained c ⟨k.val - 2, by omega⟩ else id) K) Q) := by
  by_cases h : 2 ≤ k.val
  · obtain ⟨j, hj, rfl⟩ : ∃ (j : ℕ) (hj : j + 2 < 16), k = ⟨j + 2, hj⟩ :=
      ⟨k.val - 2, by omega, Fin.ext (by show k.val = k.val - 2 + 2; omega)⟩
    have hj' : j < 16 := by omega
    rw [if_pos h]
    unfold outRest outAll
    rw [if_neg (show ¬ (j + 2 = 0) by omega), if_neg (show ¬ (j + 2 ≤ 1) by omega),
      if_neg (show ¬ (j + 2 + 1 = 0) by omega), if_neg (show ¬ (j + 2 + 1 ≤ 1) by omega)]
    have fr : freeOut (F := F) c (j + 2) = freeOut c j := by unfold freeOut; rw [slN_two]
    show iprop(env I κ ∗ phase j (j + 2) (outD I c) (outU c) (outB c) ∗ ((stPos c j ∗ stPos c (j + 1)) ∗ emp ∗ emp) ∗ debts c (owe c ny no np))
      ⊢ iprop(((phase (j + 1) (j + 2) (outD I c) (outU c) (outB c) ∗ ((stPos c (j + 1) ∗ stPos c (j + 2)) ∗ emp ∗ emp) ∗ freeOut c (j + 2)
          ∗ got c (cSt (slN (j + 2))) ((j + 2) / 2) ∗ debts c (owe c ny no np)) -∗ runs c K Q) -∗ runs c (drained c ⟨j, hj'⟩ K) Q)
    rw [fr]
    iintro ⟨#HE, HA, ⟨⟨HP, HP'⟩, -, -⟩, HO⟩ Hk
    ihave HA := (phase_end (D := outD I c) (U := outU c) (B := outB c) (b := j + 2) ⟨j, hj'⟩ (show j < j + 2 by omega)) $$ HA
    icases HA with ⟨HU, HA⟩
    iapply (drained_step I κ c ⟨j, hj'⟩ ny no np) $$ [HU HP HO]
    · isplitr; · iexact HE
      isplitl [HU]; · iexact HU
      isplitl [HP]; · iexact HP
      iexact HO
    iintro ⟨HD, HF, ⟨HP, #Hr⟩, HO⟩
    iapply Hk
    isplitl [HA HD]
    · iapply HA; iexact HD
    isplitl [HP HP']
    · isplitl [HP HP']
      · isplitl [HP']; · iexact HP'
        isplitl [HP]; · iexact HP
        iexact Hr
      isplitr <;> iempintro
    isplitl [HF]; · iexact HF
    isplitr; · iexact Hr
    iexact HO
  · rw [if_neg h, show k.val + 1 - 2 = k.val - 2 by omega]
    have hk : k = 0 ∨ k = 1 := by
      rcases k with ⟨v, hv⟩
      have : v = 0 ∨ v = 1 := by simp only at h; omega
      rcases this with rfl | rfl
      · exact .inl rfl
      · exact .inr rfl
    unfold outRest
    rcases hk with rfl | rfl
    · show iprop(env I κ ∗ outAll I c 0 0 ∗ ((stPos c 0 ∗ stPos c 1) ∗ freeOut c 0 ∗ freeOut c 1) ∗ debts c (owe c ny no np))
        ⊢ iprop(((outAll I c 0 0 ∗ ((stPos c 0 ∗ stPos c 1) ∗ emp ∗ freeOut c 1) ∗ freeOut c 0 ∗ got c (cSt (slN 0)) (0 / 2)
            ∗ debts c (owe c ny no np)) -∗ runs c K Q) -∗ runs c K Q)
      iintro ⟨#HE, HA, ⟨⟨⟨HP, #Hr⟩, HP'⟩, HF, HF'⟩, HO⟩ Hk
      iapply Hk
      isplitl [HA]; · iexact HA
      isplitl [HP HP' HF']
      · isplitl [HP HP']
        · isplitl [HP]
          · isplitl [HP]; · iexact HP
            iexact Hr
          iexact HP'
        isplitr; · iempintro
        iexact HF'
      isplitl [HF]; · iexact HF
      isplitr; · iexact Hr
      iexact HO
    · show iprop(env I κ ∗ outAll I c 0 1 ∗ ((stPos c 0 ∗ stPos c 1) ∗ emp ∗ freeOut c 1) ∗ debts c (owe c ny no np))
        ⊢ iprop(((outAll I c 0 1 ∗ ((stPos c 0 ∗ stPos c 1) ∗ emp ∗ emp) ∗ freeOut c 1 ∗ got c (cSt (slN 1)) (1 / 2)
            ∗ debts c (owe c ny no np)) -∗ runs c K Q) -∗ runs c K Q)
      iintro ⟨#HE, HA, ⟨⟨HP', HP, #Hr⟩, -, HF⟩, HO⟩ Hk
      iapply Hk
      isplitl [HA]; · iexact HA
      isplitl [HP HP']
      · isplitl [HP HP']
        · isplitl [HP']; · iexact HP'
          isplitl [HP]; · iexact HP
          iexact Hr
        isplitr <;> iempintro
      isplitl [HF]; · iexact HF
      isplitr; · iexact Hr
      iexact HO

/-- Passing on the chunk before, if there is one. -/
theorem prev_step (no : ℕ) (ho : k.val ≤ no) :
    iprop(env I κ ∗ pAll I c 0 (k.val - 1) ∗ debts c (owe c 16 no (k.val - 1)))
      ⊢ iprop(((pAll I c 0 k.val ∗ debts c (owe c 16 no k.val)) -∗ runs c K Q)
          -∗ runs c ((if 1 ≤ k.val then pass c ⟨k.val - 1, by omega⟩ else id) K) Q) := by
  by_cases h : 1 ≤ k.val
  · obtain ⟨j, hj, rfl⟩ : ∃ (j : ℕ) (hj : j + 1 < 16), k = ⟨j + 1, hj⟩ :=
      ⟨k.val - 1, by omega, Fin.ext (by show k.val = k.val - 1 + 1; omega)⟩
    have hj' : j < 16 := by omega
    rw [if_pos h]
    unfold pAll
    show iprop(env I κ ∗ phase 0 j (pD I c) (pU c) (pB c) ∗ debts c (owe c 16 no j))
      ⊢ iprop(((phase 0 (j + 1) (pD I c) (pU c) (pB c) ∗ debts c (owe c 16 no (j + 1))) -∗ runs c K Q) -∗ runs c (pass c ⟨j, hj'⟩ K) Q)
    iintro ⟨#HE, HA, HO⟩ Hk
    ihave HA := (phase_begin (D := pD I c) (U := pU c) (B := pB c) (a := 0) ⟨j, hj'⟩ (Nat.zero_le _)) $$ HA
    icases HA with ⟨HB, HA⟩
    iapply (pass_step I κ c ⟨j, hj'⟩ no ho) $$ [HB HO]
    · isplitr; · iexact HE
      isplitl [HB]; · iexact HB
      iexact HO
    iintro ⟨HU, HO⟩
    iapply Hk
    isplitl [HA HU]
    · iapply HA; iexact HU
    iexact HO
  · rw [if_neg h, id_eq, show k.val = 0 by omega]
    iintro ⟨-, HA, HO⟩ Hk
    iapply Hk
    isplitl [HA]; · iexact HA
    iexact HO

/-- One chunk. -/
theorem round_step :
    iprop(env I κ ∗ before I c k.val) ⊢ iprop((before I c (k.val + 1) -∗ runs c K Q) -∗ runs c (round c k K) Q) := by
  unfold before round
  rw [show k.val + 1 - 1 = k.val by omega]
  have e2 : freeIn (F := F) c (k.val + 1 + 1) = freeIn c k.val := by unfold freeIn; rw [show k.val + 1 + 1 = k.val + 2 by omega, slN_two]
  iintro ⟨#HE, HO, HY, ⟨HI, HIR⟩, ⟨HU, HUR⟩, HP, Hg⟩ Hk
  unfold inRest
  rw [e2]
  icases HIR with ⟨HiP, HiP', HiF, -⟩
  unfold inAll
  ihave HI := (phase_end (D := inD I c) (U := inU c) (B := inB I c) (b := k.val + 1) k (by omega)) $$ HI
  icases HI with ⟨HX, HI⟩
  iapply (fetched_step I κ c k 16 k.val (k.val - 1)) $$ [HX HiP HO]
  · isplitr; · iexact HE
    isplitl [HX]; · iexact HX
    isplitl [HiP]; · iexact HiP
    iexact HO
  iintro ⟨HX, Hfull, HiP, HO⟩
  ihave HI := HI $$ HX
  have next := next_step I κ c k (K := exchanged c k <| (if 2 ≤ k.val then drained c ⟨k.val - 2, by omega⟩ else id) <|
    compute k <| spread c k <| (if 1 ≤ k.val then pass c ⟨k.val - 1, by omega⟩ else id) K) (Q := Q)
  unfold inAll at next
  iapply next $$ [HI HiF HiP']
  · isplitr; · iexact HE
    isplitl [HI]; · iexact HI
    isplitl [HiF]; · iexact HiF
    iexact HiP'
  iintro ⟨HI, HiP', HiF⟩
  unfold yAll
  ihave HY := (phase_end (D := yD I c) (U := yU c) (B := yB I c) (b := 16) k k.isLt) $$ HY
  icases HY with ⟨HX, HY⟩
  iapply (exchanged_step I κ c k k.val (k.val - 1)) $$ [HX HO]
  · isplitr; · iexact HE
    isplitl [HX]; · iexact HX
    iexact HO
  iintro ⟨⟨Hy1, Hy2, Hy3, Hrecv⟩, HO⟩
  iapply (room_step I κ c k 16 k.val (k.val - 1)) $$ [HU HUR HO]
  · isplitr; · iexact HE
    isplitl [HU]; · iexact HU
    isplitl [HUR]; · iexact HUR
    iexact HO
  iintro ⟨HU, HUR, Hfree, #Hr, HO⟩
  iapply (compute_step I c k) $$ [Hrecv Hfull Hfree Hg]
  · isplitl [Hrecv]; · iexact Hrecv
    isplitl [Hfull]; · iexact Hfull
    isplitl [Hfree]; · iexact Hfree
    iexact Hg
  iintro ⟨Hrecv, HF, Hout, Hg⟩
  unfold outAll
  ihave HU := (phase_begin (D := outD I c) (U := outU c) (B := outB c) (a := k.val + 1 - 2) k (by omega)) $$ HU
  icases HU with ⟨HX, HU⟩
  iapply (spread_step I κ c k 16 (k.val - 1)) $$ [HX Hout HO]
  · isplitr; · iexact HE
    isplitl [HX]; · iexact HX
    isplitl [Hout]; · iexact Hout
    isplitr; · iexact Hr
    iexact HO
  iintro ⟨HX, HO⟩
  ihave HU := HU $$ HX
  iapply (prev_step I κ c k (k.val + 1) (by omega)) $$ [HP HO]
  · isplitr; · iexact HE
    isplitl [HP]; · iexact HP
    iexact HO
  iintro ⟨HP, HO⟩
  iapply Hk
  isplitl [HO]; · iexact HO
  isplitl [HY Hy1 Hy2 Hy3 Hrecv]
  · iapply HY
    isplitl [Hy1]; · iexact Hy1
    isplitl [Hy2]; · iexact Hy2
    isplitl [Hy3]; · iexact Hy3
    iexact Hrecv
  isplitl [HI HiP HiP' HiF HF]
  · isplitl [HI]; · iexact HI
    isplitl [HiP']; · iexact HiP'
    isplitl [HiP]; · iexact HiP
    isplitl [HF]; · iexact HF
    iexact HiF
  isplitl [HU HUR]
  · isplitl [HU]; · iexact HU
    iexact HUR
  isplitl [HP]; · iexact HP
  iexact Hg

end Cert.KernelIdeal.Talk
-- ==== Proof.WorkIdeal.lean ====
/-
All that follows the barrier: every chunk sent across y, the main loop, the last waits.
-/
module

public import proofs.«01_k».proof.Proof.RoundIdeal

@[expose] public section

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (I : Data F)

local notation "𝕄" => MT nD τ sig Unit (Elt F) ℕ UU ℕ

variable (κ : GSem nD τ sig → ℕ) (c : Dev nD) {K : KProg F} {Q : Post F}

/-- A loop over the chunks keeps what each chunk keeps. -/
theorem each_step (f : Fin 16 → KProg F → KProg F) (P : ℕ → sProp (MT nD τ sig Unit (Elt F) ℕ UU ℕ))
    (hf : ∀ (k : Fin 16) (K : KProg F), iprop(env I κ ∗ P k.val) ⊢ iprop((P (k.val + 1) -∗ runs c K Q) -∗ runs c (f k K) Q)) :
    ∀ (j k : ℕ) (h : k + j = 16), iprop(env I κ ∗ P k) ⊢ iprop((P 16 -∗ runs c K Q) -∗ runs c (each f K k j h) Q)
  | 0, k, h => by
    obtain rfl : k = 16 := by omega
    iintro ⟨-, HP⟩ Hk
    iapply Hk; iexact HP
  | j + 1, k, h => by
    have hk : k < 16 := by omega
    have ih := each_step f P hf j (k + 1) (by omega)
    have h1 := hf ⟨k, hk⟩ (each f K (k + 1) j (by omega))
    unfold each
    iintro ⟨#HE, HP⟩ Hk
    iapply h1 $$ [HP]
    · isplitr; · iexact HE
      iexact HP
    iintro HP
    iapply ih $$ [HP]
    · isplitr; · iexact HE
      iexact HP
    iexact Hk

/-- The last copies: chunks before `k` have landed. -/
def rAll (c : Dev nD) (k : ℕ) : sProp 𝕄 := phase k k (rD I c) (rB c) (rB c)

/-- What a device holds once the barrier is passed. -/
def start (c : Dev nD) : sProp 𝕄 :=
  iprop(debts c (owe c 0 0 0) ∗ bigSep Finset.univ (yB I c) ∗ (bigSep Finset.univ (inB I c) ∗ inPos c 0 ∗ inPos c 1 ∗ freeIn c 0 ∗ freeIn c 1)
    ∗ (bigSep Finset.univ (outB c) ∗ (stPos c 0 ∗ stPos c 1) ∗ freeOut c 0 ∗ freeOut c 1) ∗ bigSep Finset.univ (pB c)
    ∗ bigSep Finset.univ (rB c) ∗ gam I c)
/-- What it holds when all is done. -/
def finish (c : Dev nD) : sProp 𝕄 :=
  iprop(debts c 0 ∗ bigSep Finset.univ (yD I c) ∗ (bigSep Finset.univ (inD I c) ∗ inPos c 16 ∗ inPos c 17 ∗ freeIn c 0 ∗ freeIn c 1)
    ∗ (bigSep Finset.univ (outD I c) ∗ (stPos c 16 ∗ stPos c 17) ∗ freeOut c 0 ∗ freeOut c 1) ∗ bigSep Finset.univ (pD I c)
    ∗ bigSep Finset.univ (rD I c) ∗ gam I c)

theorem slN_mod (i j : ℕ) (h : i % 2 = j % 2) : slN i = slN j := Fin.ext h
theorem freeIn_mod (i j : ℕ) (h : i % 2 = j % 2) : freeIn (F := F) c i = freeIn c j := by unfold freeIn; rw [slN_mod i j h]
theorem freeOut_mod (i j : ℕ) (h : i % 2 = j % 2) : freeOut (F := F) c i = freeOut c j := by unfold freeOut; rw [slN_mod i j h]

/-- Every chunk sent across y. -/
theorem sends_step :
    iprop(env I κ ∗ bigSep Finset.univ (yB I c) ∗ debts c (owe c 0 0 0))
      ⊢ iprop(((yAll I c 0 16 ∗ debts c (owe c 16 0 0)) -∗ runs c K Q) -∗ runs c (each (ySend c) K 0 16 rfl) Q) := by
  have h := each_step I κ c (K := K) (Q := Q) (ySend c) (fun k => iprop(yAll I c 0 k ∗ debts c (owe c k 0 0))) (fun k K => by
    unfold yAll
    iintro ⟨#HE, HA, HO⟩ Hk
    ihave HA := (phase_begin (D := yD I c) (U := yU c) (B := yB I c) (a := 0) k (Nat.zero_le _)) $$ HA
    icases HA with ⟨HB, HA⟩
    iapply (ySend_step I κ c k 0 0) $$ [HB HO]
    · isplitr; · iexact HE
      isplitl [HB]; · iexact HB
      iexact HO
    iintro ⟨HU, HO⟩
    iapply Hk
    isplitl [HA HU]
    · iapply HA; iexact HU
    iexact HO) 16 0 rfl
  have e : yAll I c 0 0 = bigSep Finset.univ (yB I c) := phase_first
  rw [← e]
  exact h

/-- The main loop. -/
theorem rounds_step :
    iprop(env I κ ∗ before I c 0) ⊢ iprop((before I c 16 -∗ runs c K Q) -∗ runs c (each (round c) K 0 16 rfl) Q) :=
  each_step I κ c (round c) (before I c) (fun k _ => round_step I κ c k) 16 0 rfl

/-- The waits for what is still to land. -/
theorem lands_step :
    iprop(env I κ ∗ bigSep Finset.univ (rB c) ∗ debts c 0)
      ⊢ iprop(((bigSep Finset.univ (rD I c) ∗ debts c 0) -∗ runs c K Q) -∗ runs c (each (landed c) K 0 16 rfl) Q) := by
  have h := each_step I κ c (K := K) (Q := Q) (landed c) (fun k => iprop(rAll I c k ∗ debts c 0)) (fun k K => by
    unfold rAll
    iintro ⟨#HE, HA, HO⟩ Hk
    ihave HA := (phase_begin (D := rD I c) (U := rB c) (B := rB c) (a := k.val) k le_rfl) $$ HA
    icases HA with ⟨HB, HA⟩
    ihave HA := HA $$ HB
    ihave HA := (phase_end (D := rD I c) (U := rB c) (B := rB c) (b := k.val + 1) k (by omega)) $$ HA
    icases HA with ⟨HB, HA⟩
    iapply (landed_step I κ c k) $$ [HB HO]
    · isplitr; · iexact HE
      isplitl [HB]; · iexact HB
      iexact HO
    iintro ⟨HU, HO⟩
    iapply Hk
    isplitl [HA HU]
    · iapply HA; iexact HU
    iexact HO) 16 0 rfl
  have e : rAll I c 0 = bigSep Finset.univ (rB c) := phase_first
  have e' : rAll I c 16 = bigSep Finset.univ (rD I c) := phase_last le_rfl
  rw [← e, ← e']
  exact h

/-- The waits for what has been passed on. -/
theorem passes_step :
    iprop(env I κ ∗ pAll I c 0 16 ∗ debts c 0)
      ⊢ iprop(((bigSep Finset.univ (pD I c) ∗ debts c 0) -∗ runs c K Q) -∗ runs c (each (passed c) K 0 16 rfl) Q) := by
  have h := each_step I κ c (K := K) (Q := Q) (passed c) (fun k => iprop(pAll I c k 16 ∗ debts c 0)) (fun k K => by
    unfold pAll
    iintro ⟨#HE, HA, HO⟩ Hk
    ihave HA := (phase_end (D := pD I c) (U := pU c) (B := pB c) (b := 16) k k.isLt) $$ HA
    icases HA with ⟨HB, HA⟩
    iapply (passed_step I κ c k) $$ [HB HO]
    · isplitr; · iexact HE
      isplitl [HB]; · iexact HB
      iexact HO
    iintro ⟨HU, HO⟩
    iapply Hk
    isplitl [HA HU]
    · iapply HA; iexact HU
    iexact HO) 16 0 rfl
  have e' : pAll I c 16 16 = bigSep Finset.univ (pD I c) := phase_last le_rfl
  rw [← e']
  exact h

/-- The first fetch. -/
theorem first_step :
    iprop(env I κ ∗ bigSep Finset.univ (inB I c) ∗ freeIn c 0 ∗ inPos c 0)
      ⊢ iprop(((inAll I c 0 1 ∗ inPos c 0) -∗ runs c K Q) -∗ runs c (fetch c 0 K) Q) := by
  have e : phase 0 0 (inD I c) (inU c) (inB I c) = bigSep Finset.univ (inB I c) := phase_first
  have h := phase_begin (D := inD I c) (U := inU c) (B := inB I c) (a := 0) 0 le_rfl
  rw [show ((0 : Fin 16).val) = 0 from rfl, e] at h
  have f := fetch_step I κ c 0 (K := K) (Q := Q)
  rw [show ((0 : Fin 16).val) = 0 from rfl] at f
  unfold inAll
  iintro ⟨#HE, HA, HF, HP⟩ Hk
  ihave HA := h $$ HA
  icases HA with ⟨HB, HA⟩
  iapply f $$ [HB HF HP]
  · isplitr; · iexact HE
    isplitl [HB]; · iexact HB
    isplitl [HF]; · iexact HF
    iexact HP
  iintro ⟨HU, HP⟩
  iapply Hk
  isplitl [HA HU]
  · iapply HA; iexact HU
  iexact HP

/-- The last finished chunks read. -/
theorem drains_step (h14 : 14 < 16) (h15 : 15 < 16) :
    iprop(env I κ ∗ outAll I c 14 16 ∗ (stPos c 14 ∗ stPos c 15) ∗ debts c (owe c 16 16 16))
      ⊢ iprop(((bigSep Finset.univ (outD I c) ∗ (stPos c 16 ∗ stPos c 17) ∗ freeOut c 14 ∗ freeOut c 15 ∗ debts c (owe c 16 16 16)) -∗ runs c K Q)
          -∗ runs c (drained c ⟨14, h14⟩ (drained c ⟨15, h15⟩ K)) Q) := by
  have e : phase 16 16 (outD I c) (outU c) (outB c) = bigSep Finset.univ (outD I c) := phase_last le_rfl
  have p1 := phase_end (D := outD I c) (U := outU c) (B := outB c) (b := 16) ⟨14, h14⟩ (show 14 < 16 by omega)
  have p2 := phase_end (D := outD I c) (U := outU c) (B := outB c) (b := 16) ⟨15, h15⟩ (show 15 < 16 by omega)
  rw [show (⟨15, h15⟩ : Fin 16).val + 1 = 16 from rfl, e] at p2
  unfold outAll
  iintro ⟨#HE, HA, ⟨HP, HP'⟩, HO⟩ Hk
  ihave HA := p1 $$ HA
  icases HA with ⟨HU, HA⟩
  iapply (drained_step I κ c ⟨14, h14⟩ 16 16 16) $$ [HU HP HO]
  · isplitr; · iexact HE
    isplitl [HU]; · iexact HU
    isplitl [HP]; · iexact HP
    iexact HO
  iintro ⟨HD, HF, HP, HO⟩
  ihave HA := HA $$ HD
  ihave HA := p2 $$ HA
  icases HA with ⟨HU, HA⟩
  iapply (drained_step I κ c ⟨15, h15⟩ 16 16 16) $$ [HU HP' HO]
  · isplitr; · iexact HE
    isplitl [HU]; · iexact HU
    isplitl [HP']; · iexact HP'
    iexact HO
  iintro ⟨HD, HF', HP', HO⟩
  iapply Hk
  isplitl [HA HD]
  · iapply HA; iexact HD
  isplitl [HP HP']
  · isplitl [HP]; · iexact HP
    iexact HP'
  isplitl [HF]; · iexact HF
  isplitl [HF']; · iexact HF'
  iexact HO

/-- What follows the main loop. -/
theorem tail_step :
    iprop(env I κ ∗ before I c 16 ∗ bigSep Finset.univ (rB c))
      ⊢ iprop((finish I c -∗ runs c (.ret ⟨⟩) Q) -∗ runs c (tail c) Q) := by
  have p := pass_step I κ c 15 16 (by decide) (K := drained c 14 <| drained c 15 <|
    each (landed c) (each (passed c) (.ret ⟨⟩) 0 16 rfl) 0 16 rfl) (Q := Q)
  have pb := phase_begin (D := pD I c) (U := pU c) (B := pB c) (a := 0) 15 (Nat.zero_le _)
  rw [show ((15 : Fin 16).val) = 15 from rfl] at p pb
  have ey : yAll I c 16 16 = bigSep Finset.univ (yD I c) := phase_last le_rfl
  have ei : inAll I c 16 (16 + 1) = bigSep Finset.univ (inD I c) := phase_last le_rfl
  unfold before inRest outRest finish tail
  rw [ey, ei, if_pos rfl, if_neg (by decide), if_neg (by decide), freeIn_mod c (16 + 1) 1 rfl, freeIn_mod c 16 0 rfl,
    freeOut_mod c 0 14 rfl, freeOut_mod c 1 15 rfl]
  iintro ⟨#HE, ⟨HO, HY, ⟨HI, HiP, HiP', HF1, HF0⟩, ⟨HU, HUP, -, -⟩, HP, Hg⟩, HR⟩ Hk
  unfold pAll
  ihave HP := pb $$ HP
  icases HP with ⟨HB, HP⟩
  iapply p $$ [HB HO]
  · isplitr; · iexact HE
    isplitl [HB]; · iexact HB
    iexact HO
  iintro ⟨HX, HO⟩
  ihave HP := HP $$ HX
  iapply (drains_step I κ c (by decide) (by decide)) $$ [HU HUP HO]
  · isplitr; · iexact HE
    isplitl [HU]; · iexact HU
    isplitl [HUP]; · iexact HUP
    iexact HO
  rw [owe_end]
  iintro ⟨HU, HUP, HG0, HG1, HO⟩
  iapply (lands_step I κ c) $$ [HR HO]
  · isplitr; · iexact HE
    isplitl [HR]; · iexact HR
    iexact HO
  iintro ⟨HR, HO⟩
  have ps := passes_step I κ c (K := .ret ⟨⟩) (Q := Q)
  unfold pAll at ps
  iapply ps $$ [HP HO]
  · isplitr; · iexact HE
    isplitl [HP]; · iexact HP
    iexact HO
  iintro ⟨HP, HO⟩
  iapply Hk
  isplitl [HO]; · iexact HO
  isplitl [HY]; · iexact HY
  isplitl [HI HiP HiP' HF0 HF1]
  · isplitl [HI]; · iexact HI
    isplitl [HiP]; · iexact HiP
    isplitl [HiP']; · iexact HiP'
    isplitl [HF0]; · iexact HF0
    iexact HF1
  isplitl [HU HUP HG0 HG1]
  · isplitl [HU]; · iexact HU
    isplitl [HUP]; · iexact HUP
    isplitl [HG0]; · iexact HG0
    iexact HG1
  isplitl [HP]; · iexact HP
  isplitl [HR]; · iexact HR
  iexact Hg

/-- All that follows the barrier. -/
theorem work_step :
    iprop(env I κ ∗ start I c) ⊢ iprop((finish I c -∗ runs c (.ret ⟨⟩) Q) -∗ runs c (work c) Q) := by
  have eo : outAll I c 0 0 = bigSep Finset.univ (outB c) := phase_first
  have ep : pAll I c 0 0 = bigSep Finset.univ (pB c) := phase_first
  unfold start work
  iintro ⟨#HE, HO, HY, ⟨HI, HiP, HiP', HF0, HF1⟩, ⟨HU, HUP, HG0, HG1⟩, HP, HR, Hg⟩ Hk
  iapply (sends_step I κ c) $$ [HY HO]
  · isplitr; · iexact HE
    isplitl [HY]; · iexact HY
    iexact HO
  iintro ⟨HY, HO⟩
  iapply (first_step I κ c) $$ [HI HF0 HiP]
  · isplitr; · iexact HE
    isplitl [HI]; · iexact HI
    isplitl [HF0]; · iexact HF0
    iexact HiP
  iintro ⟨HI, HiP⟩
  iapply (rounds_step I κ c) $$ [HO HY HI HiP HiP' HF1 HU HUP HG0 HG1 HP Hg]
  · isplitr; · iexact HE
    unfold before inRest outRest
    rw [if_neg (by decide), if_pos rfl, if_pos (Nat.zero_le 1)]
    isplitl [HO]; · iexact HO
    isplitl [HY]; · iexact HY
    isplitl [HI HiP HiP' HF1]
    · isplitl [HI]; · iexact HI
      isplitl [HiP]; · iexact HiP
      isplitl [HiP']; · iexact HiP'
      isplitl [HF1]; · iexact HF1
      iempintro
    isplitl [HU HUP HG0 HG1]
    · isplitl [HU]; · iapply (Entails.of_eq eo.symm) $$ HU
      isplitl [HUP]; · iexact HUP
      isplitl [HG0]; · iexact HG0
      iexact HG1
    isplitl [HP]; · iapply (Entails.of_eq ep.symm) $$ HP
    iexact Hg
  iintro HB
  iapply (tail_step I κ c) $$ [HB HR]
  · isplitr; · iexact HE
    isplitl [HB]; · iexact HB
    iexact HR
  iexact Hk

end Cert.KernelIdeal.Talk
-- ==== Proof.LendIdeal.lean ====
/-
What a device holds of each chunk when the region begins, what of it the barrier's signals lend to the
neighbours, what they lend in turn, and what is held when all is done.
-/
module

public import proofs.«01_k».proof.Proof.WorkIdeal

@[expose] public section

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (I : Data F)

local notation "𝕄" => MT nD τ sig Unit (Elt F) ℕ UU ℕ

theorem bigSep_fin8 (Φ : Fin 8 → sProp 𝕄) :
    bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ
theorem bigSep_fin3 (Φ : Fin 3 → sProp 𝕄) : bigSep Finset.univ Φ = iprop(Φ 0 ∗ Φ 1 ∗ Φ 2) :=
  bigSep_univ_eq_bigSepL [0, 1, 2] (by decide) (by decide) Φ

/-- A semaphore just opened. -/
abbrev place (c : Dev nD) (x : Cell) : sProp 𝕄 := iprop(pos c x 0 ∗ got c x 0)

variable (c : Dev nD) (k : Fin 16)

/-! ## A chunk at the start -/

/-- The rows of chunk `k` that stay with the device. -/
abbrev rowsKept : sProp 𝕄 := iprop(at' c (partM c k) qL (flat (own I c k)) ∗ inD I c k ∗ any c (ownM c k))
/-- The rows of chunk `k` that the neighbours will write. -/
abbrev rowsLent : sProp 𝕄 := iprop(any c (recvM k) ∗ any c (xqM c k) ∗ any c (zqM c k) ∗ any c (dqM c k))
/-- The rights to pay for chunk `k`. -/
abbrev toks : sProp 𝕄 :=
  iprop(tok c (cYs k) 0 ∗ tok (devY c) (cYr k) 0 ∗ tok c (cXs k) 0 ∗ tok (devX c) (cXr k) 0 ∗ tok c (cZs k) 0 ∗ tok (devZ c) (cZr k) 0
    ∗ tok c (cFs k) 0 ∗ tok (devP c k) (cDr k) 0 ∗ tok c (cIn (slot k)) (k.val / 2) ∗ tok c (cRs (slot k)) (k.val / 2)
    ∗ tok c (cSt (slot k)) (k.val / 2))
/-- The units that the neighbours will pay. -/
abbrev units : sProp 𝕄 := iprop(unit' c (cYr k) ∗ unit' c (cXr k) ∗ unit' c (cZr k) ∗ unit' c (cDr k))
/-- The semaphores of chunk `k`. -/
abbrev places : sProp 𝕄 := bigSep Finset.univ fun a : Fin 8 => place c (arr a k)
/-- What is lent to the neighbour across y. -/
abbrev payY1 : sProp 𝕄 := iprop(any (devY c) (recvM k) ∗ reached ER (gc (devY c) (cYr k)) 0)

/-- The rows the neighbours will write, as they will hold them. -/
theorem lend : iprop(rowsLent c k ∗ places c k) ⊢ (iprop(places c k ∗ payY1 (devY c) k ∗ payX1 (devX c) k ∗ payZ1 (devZ c) k) : sProp 𝕄) := by
  unfold rowsLent payX1 payZ1 payY1 places place got
  rw [bigSep_fin8, devY_devY, devX_devX, devZ_devZ, ← xqM_eq, ← zqM_eq, zqM_devX, xqM_devZ]
  by_cases h : k.val % 2 = 0
  · rw [if_pos h, if_pos h]
    iintro ⟨⟨H1, H2, H3, H4⟩, ⟨P0, R0⟩, ⟨P1, #R1⟩, ⟨P2, R2⟩, ⟨P3, R3⟩, ⟨P4, #R4⟩, ⟨P5, #R5⟩, ⟨P6, R6⟩, P7, #R7⟩
    iframe
    iframe R1 R4 R5 R7
  · rw [if_neg h, if_neg h]
    iintro ⟨⟨H1, H2, H3, H4⟩, ⟨P0, R0⟩, ⟨P1, #R1⟩, ⟨P2, R2⟩, ⟨P3, R3⟩, ⟨P4, #R4⟩, ⟨P5, #R5⟩, ⟨P6, R6⟩, P7, #R7⟩
    iframe
    iframe R1 R4 R5 R7

/-- What the device keeps and what its neighbours lend it is the chunk ready to be worked on. -/
theorem ready : iprop(rowsKept I c k ∗ toks c k ∗ units c k ∗ places c k ∗ payY1 c k ∗ payX1 c k ∗ payZ1 c k)
    ⊢ (iprop(yB I c k ∗ inB I c k ∗ outB c k ∗ pB c k ∗ rB c k) : sProp 𝕄) := by
  unfold rowsKept toks units payY1 payX1 payZ1 places place yB yPos inB outB outPos pB rB cG cH devP passM
  rw [bigSep_fin8]
  by_cases h : k.val % 2 = 0
  · simp only [if_pos h]
    iintro ⟨⟨H1, H2, H3⟩, ⟨T0, T1, T2, T3, T4, T5, T6, T7, T8, T9, T10⟩, ⟨U1, U2, U3, U4⟩,
      ⟨⟨P0, R0⟩, ⟨P1, -⟩, ⟨P2, R2⟩, ⟨P3, R3⟩, ⟨P4, -⟩, ⟨P5, -⟩, ⟨P6, R6⟩, P7, -⟩, ⟨Y1, Y2⟩, ⟨⟨X1, X2⟩, X3, X4⟩, ⟨Z1, Z2⟩, -⟩
    iframe
  · simp only [if_neg h]
    iintro ⟨⟨H1, H2, H3⟩, ⟨T0, T1, T2, T3, T4, T5, T6, T7, T8, T9, T10⟩, ⟨U1, U2, U3, U4⟩,
      ⟨⟨P0, R0⟩, ⟨P1, -⟩, ⟨P2, R2⟩, ⟨P3, R3⟩, ⟨P4, -⟩, ⟨P5, -⟩, ⟨P6, R6⟩, P7, -⟩, ⟨Y1, Y2⟩, ⟨⟨X1, X2⟩, -⟩, ⟨Z1, Z2⟩, Z3, Z4⟩
    iframe

/-! ## A chunk at the end -/

/-- The rows of chunk `k` with their last contents. -/
abbrev rowsEnd : sProp 𝕄 :=
  iprop((any c (recvM k) ∗ at' c (partM c k) qL (flat (own I c k)) ∗ inD I c k)
    ∗ at' c (ownM c k) fullShare (flat (fin I c k)) ∗ at' c (xqM c k) fullShare (flat (fin I (devX c) k))
    ∗ at' c (zqM c k) fullShare (flat (fin I (devZ c) k)) ∗ at' c (dqM c k) fullShare (flat (fin I (devX (devZ c)) k)))

theorem ended : iprop(yD I c k ∗ inD I c k ∗ outD I c k ∗ pD I c k ∗ rD I c k)
    ⊢ (iprop(rowsEnd I c k ∗ bigSep Finset.univ fun a : Fin 8 => pos c (arr a k) 1) : sProp 𝕄) := by
  unfold yD outD pD rD cG cH passM passV restM restV rowsEnd
  rw [bigSep_fin8]
  by_cases h : k.val % 2 = 0
  · simp only [if_pos h]
    iintro ⟨⟨P0, P1, H1, H2⟩, H3, ⟨H4, P2, P3⟩, ⟨P5, P6, H5⟩, ⟨P4, H6⟩, P7, H7⟩
    ihave H2 := (any_of c _ _) $$ H2
    iframe
  · simp only [if_neg h]
    iintro ⟨⟨P0, P1, H1, H2⟩, H3, ⟨H4, P2, P3⟩, ⟨P5, P6, H5⟩, ⟨P4, H6⟩, P7, H7⟩
    ihave H2 := (any_of c _ _) $$ H2
    iframe

end Cert.KernelIdeal.Talk
-- ==== Proof.BodyIdeal.lean ====
/-
The whole body: the barrier's three signals and its wait, all that follows, and the semaphores
closed at zero again.
-/
module

public import proofs.«01_k».proof.Proof.LendIdeal

@[expose] public section

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (I : Data F)

local notation "𝕄" => MT nD τ sig Unit (Elt F) ℕ UU ℕ

variable (κ : GSem nD τ sig → ℕ) (c : Dev nD)

/-! ## What is held before and after -/

/-- What device `c` owes when the region begins: a unit to each neighbour's barrier, and every chunk. -/
def O₀ (c : Dev nD) : CellTallies nD τ sig Unit :=
  owe c 0 0 0 + tallyAt (gc (devZ c) bar) () 1 + tallyAt (gc (devX c) bar) () 1 + tallyAt (gc (devY c) bar) () 1

/-- What the barrier takes. -/
def barHeld (c : Dev nD) : sProp 𝕄 :=
  iprop(pos c bar 0 ∗ cred (tallyAt (gc c bar) () 3)
    ∗ (dutyTok ER (gc (devY c) bar) 0 0 ∗ got (devY c) bar 0) ∗ (dutyTok ER (gc (devX c) bar) 0 1 ∗ got (devX c) bar 0)
    ∗ dutyTok ER (gc (devZ c) bar) 0 2 ∗ got (devZ c) bar 0)
/-- Chunk `k` when the region begins. -/
def item (c : Dev nD) (k : Fin 16) : sProp 𝕄 := iprop(rowsKept I c k ∗ rowsLent c k ∗ toks c k ∗ units c k ∗ places c k)
/-- The slots' buffers. -/
def slotRows (c : Dev nD) (s : Fin 2) : sProp 𝕄 := iprop(any c (inM s) ∗ any c (resM s) ∗ any c (outM s))
/-- The slots' semaphores at round `r`. -/
def slotPos (c : Dev nD) (s : Fin 2) (r : ℕ) : sProp 𝕄 := bigSep Finset.univ fun a : Fin 3 => iprop(pos c (sl a s) r ∗ got c (sl a s) r)

/-- All that device `c` holds when the region begins. -/
def entry (c : Dev nD) : sProp 𝕄 :=
  iprop(debts c (O₀ c) ∗ barHeld c ∗ bigSep Finset.univ (item I c) ∗ (slotRows c 0 ∗ slotRows c 1) ∗ (slotPos c 0 0 ∗ slotPos c 1 0) ∗ gam I c)
/-- All that it holds when its work is done. -/
def leave (c : Dev nD) : sProp 𝕄 :=
  iprop(debts c 0 ∗ pos c bar 1 ∗ (bigSep Finset.univ (rowsEnd I c) ∗ bigSep Finset.univ fun k : Fin 16 => bigSep Finset.univ fun a : Fin 8 => pos c (arr a k) 1)
    ∗ (slotRows c 0 ∗ slotRows c 1) ∗ (slotPos c 0 8 ∗ slotPos c 1 8) ∗ gam I c)

/-! ## The chunks, all together -/

theorem lend_all : bigSep Finset.univ (item I c)
    ⊢ iprop((payY (devY c) ∗ payX (devX c) ∗ payZ (devZ c))
      ∗ bigSep Finset.univ fun k : Fin 16 => iprop(rowsKept I c k ∗ toks c k ∗ units c k ∗ places c k)) := by
  unfold payY payX payZ
  rw [← bigSep_sep', ← bigSep_sep', ← bigSep_sep']
  refine bigSep_mono fun k _ => ?_
  show (_ : sProp 𝕄) ⊢ _
  unfold item
  iintro ⟨HK, HL, HT, HU, HP⟩
  ihave H := (lend c k) $$ [HL HP]
  · isplitl [HL]; · iexact HL
    iexact HP
  icases H with ⟨HP, HY, HX, HZ⟩
  isplitl [HY HX HZ]
  · isplitl [HY]; · iexact HY
    isplitl [HX]; · iexact HX
    iexact HZ
  isplitl [HK]; · iexact HK
  isplitl [HT]; · iexact HT
  isplitl [HU]; · iexact HU
  iexact HP

theorem ready_all : iprop((payY c ∗ payX c ∗ payZ c)
      ∗ bigSep Finset.univ fun k : Fin 16 => iprop(rowsKept I c k ∗ toks c k ∗ units c k ∗ places c k))
    ⊢ iprop(bigSep Finset.univ (yB I c) ∗ bigSep Finset.univ (inB I c) ∗ bigSep Finset.univ (outB c) ∗ bigSep Finset.univ (pB c)
      ∗ bigSep Finset.univ (rB c)) := by
  unfold payY payX payZ
  rw [← bigSep_sep', ← bigSep_sep', ← bigSep_sep', ← bigSep_sep', ← bigSep_sep', ← bigSep_sep', ← bigSep_sep']
  refine bigSep_mono fun k _ => ?_
  show (_ : sProp 𝕄) ⊢ _
  iintro ⟨⟨HY, HX, HZ⟩, HK, HT, HU, HP⟩
  iapply (ready I c k)
  isplitl [HK]; · iexact HK
  isplitl [HT]; · iexact HT
  isplitl [HU]; · iexact HU
  isplitl [HP]; · iexact HP
  isplitl [HY]; · iexact HY
  isplitl [HX]; · iexact HX
  iexact HZ

theorem ended_all : iprop(bigSep Finset.univ (yD I c) ∗ bigSep Finset.univ (inD I c) ∗ bigSep Finset.univ (outD I c) ∗ bigSep Finset.univ (pD I c)
      ∗ bigSep Finset.univ (rD I c))
    ⊢ iprop(bigSep Finset.univ (rowsEnd I c) ∗ bigSep Finset.univ fun k : Fin 16 => bigSep Finset.univ fun a : Fin 8 => pos c (arr a k) 1) := by
  rw [← bigSep_sep', ← bigSep_sep', ← bigSep_sep', ← bigSep_sep', ← bigSep_sep']
  exact bigSep_mono fun k _ => ended I c k

/-! ## The barrier -/

theorem step_signal (c c' : Dev nD) (d : Fin 3) {K : PUnit → KProg F} {Q : Post F}
    {O : CellTallies nD τ sig Unit} :
    iprop(invs I κ ∗ debts c (O + tallyAt (gc c' bar) () 1) ∗ (dutyTok ER (gc c' bar) 0 d ∗ got c' bar 0) ∗ pay I c' 0 d bar)
      ⊢ iprop((debts c O -∗ runs c (K ⟨⟩) Q) -∗ runs c (.op (.semSignal (c' : Thread nD τ) barrier0 1) K) Q) := by
  unfold debts
  iintro ⟨#HI, ⟨%W, HO⟩, ⟨Ht, #Hr⟩, Hp⟩ Hk
  iapply (Rounds.wp_signal Variants.none ER (Rd I) (c : Thread nD τ) none (dst := (c' : Thread nD τ)) (sem := barrier0) (r := 0) (d := d)
    (κ := κ (gc c' bar)) (by
      show d ∈ (Rd I).duties (gc c' bar) 0
      rw [Rd_duties]; exact Finset.mem_univ d) (Rd_amount I c' bar 0 d) () O rfl (W := W)) $$ [HO Ht Hp]
  · isplitr; · iapply (inv_at I κ c' bar); iexact HI
    isplitl [HO]; · iexact HO
    isplitl [Ht]; · iexact Ht
    isplitl [Hp]; · iapply (Entails.of_eq (show pay I c' 0 d bar = (Rd I).payload ((c' : Thread nD τ), .reg barrier0) 0 d from (Rd_payload I c' bar 0 d).symm)) $$ Hp
    iexact Hr
  iintro HO
  iapply Hk
  iexists W; iexact HO

theorem step_barrier {K : PUnit → KProg F} {Q : Post F} :
    iprop(env I κ ∗ cred (tallyAt (gc c bar) () 3) ∗ debts c (owe c 0 0 0) ∗ pos c bar 0)
      ⊢ iprop(((debts c (owe c 0 0 0) ∗ pos c bar 1 ∗ (payY c ∗ payX c ∗ payZ c)) -∗ runs c (K ⟨⟩) Q)
          -∗ runs c (.op (.semWait barrier0 3) K) Q) := by
  unfold debts env
  iintro ⟨⟨#HI, #HL⟩, Hc, ⟨%W, HO⟩, Hat⟩ Hk
  iapply (Rounds.wp_wait_rest_token Variants.none ER (Rd I) (c : Thread nD τ) none (κ := κ (gc c bar)) (sm := semOf bar)
      (wpE_semWait_eq Variants.none (c : Thread nD τ) none Set.univ) (Set.mem_univ _) () (O := owe c 0 0 0) (W := W) (R := 0) (m := 0) (T := ∅)
      (by rw [Rd_expect]; rfl)) $$ [Hc HO Hat]
  · isplitr; · iapply (inv_at I κ c bar); iexact HI
    isplitl [Hc]; · iexact Hc
    isplitl [HO]; · iexact HO
    isplitr
    · iapply (may_wait c bar 0 0 0 (by show 1 < 100; decide) (.inl (by show 1 < 2; decide)) (by show 1 < 3; decide)); iexact HL
    iexact Hat
  iintro ⟨HO, Hat, -, Hp⟩
  iapply Hk
  isplitl [HO]; · iexists _; iexact HO
  isplitl [Hat]; · iexact Hat
  iapply (Entails.of_eq (show bigSep ((Rd I).duties (gc c bar) 0 \ ∅) (fun d => (Rd I).payload (gc c bar) 0 d) = iprop(payY c ∗ payX c ∗ payZ c) by
    rw [Finset.sdiff_empty, Rd_duties, bigSep_congr fun d _ => Rd_payload I c bar 0 d]
    exact bigSep_fin3 _)) $$ Hp

/-! ## The body -/

theorem body_step {Q : Post F} :
    iprop(env I κ ∗ entry I c) ⊢ iprop((leave I c -∗ runs c (.ret ⟨⟩) Q) -∗ runs c body Q) := by
  have w := work_step I κ c (Q := Q)
  have hl := lend_all I c
  have hr := ready_all I c
  have he := ended_all I c
  have t : env I κ ⊢ invs I κ := by unfold env; iintro ⟨H, -⟩; iexact H
  unfold start finish at w
  unfold entry leave barHeld O₀ slotRows slotPos body
  rw [bigSep_fin3, bigSep_fin3, bigSep_fin3, bigSep_fin3]
  simp only [runs, wp_deviceId]
  iintro ⟨#HE, HO, ⟨Hb, Hc, HtY, HtX, HtZ⟩, HI, ⟨⟨Hi, Hs, Ho⟩, Hi', Hs', Ho'⟩, ⟨⟨P0, P1, P2⟩, P0', P1', P2'⟩, Hg⟩ Hk
  ihave #HV := t $$ HE
  ihave HI := hl $$ HI
  icases HI with ⟨⟨HpY, HpX, HpZ⟩, HI⟩
  iapply (step_signal I κ c (devY c) 0) $$ [HO HtY HpY]
  · isplitr; · iexact HV
    isplitl [HO]; · iexact HO
    isplitl [HtY]; · iexact HtY
    iapply (Entails.of_eq (show payY (devY c) = pay I (devY c) 0 0 bar from rfl)) $$ HpY
  iintro HO
  iapply (step_signal I κ c (devX c) 1) $$ [HO HtX HpX]
  · isplitr; · iexact HV
    isplitl [HO]; · iexact HO
    isplitl [HtX]; · iexact HtX
    iapply (Entails.of_eq (show payX (devX c) = pay I (devX c) 0 1 bar from rfl)) $$ HpX
  iintro HO
  iapply (step_signal I κ c (devZ c) 2) $$ [HO HtZ HpZ]
  · isplitr; · iexact HV
    isplitl [HO]; · iexact HO
    isplitl [HtZ]; · iexact HtZ
    iapply (Entails.of_eq (show payZ (devZ c) = pay I (devZ c) 0 2 bar from rfl)) $$ HpZ
  iintro HO
  iapply (step_barrier I κ c) $$ [Hc HO Hb]
  · isplitr; · iexact HE
    isplitl [Hc]; · iexact Hc
    isplitl [HO]; · iexact HO
    iexact Hb
  iintro ⟨HO, Hb, HP⟩
  ihave HI := hr $$ [HP HI]
  · isplitl [HP]; · iexact HP
    iexact HI
  icases HI with ⟨HY, HN, HU, HPs, HR⟩
  iapply w $$ [HO HY HN HU HPs HR P0 P0' P1 P1' P2 P2' Hi Hs Ho Hi' Hs' Ho' Hg]
  · isplitr; · iexact HE
    isplitl [HO]; · iexact HO
    isplitl [HY]; · iexact HY
    isplitl [HN P0 P0' P1 P1' Hi Hs Hi' Hs']
    · isplitl [HN]; · iexact HN
      isplitl [P0 P1]
      · isplitl [P0]; · iexact P0
        iexact P1
      isplitl [P0' P1']
      · isplitl [P0']; · iexact P0'
        iexact P1'
      isplitl [Hi Hs]
      · isplitl [Hi]; · iexact Hi
        iexact Hs
      isplitl [Hi']; · iexact Hi'
      iexact Hs'
    isplitl [HU P2 P2' Ho Ho']
    · isplitl [HU]; · iexact HU
      isplitl [P2 P2']
      · isplitl [P2]; · iexact P2
        iexact P2'
      isplitl [Ho]; · iexact Ho
      iexact Ho'
    isplitl [HPs]; · iexact HPs
    isplitl [HR]; · iexact HR
    iexact Hg
  iintro ⟨HO, HY, ⟨HN, ⟨P0, P1⟩, ⟨P0', P1'⟩, ⟨Hi, Hs⟩, Hi', Hs'⟩, ⟨HU, ⟨P2, P2'⟩, Ho, Ho'⟩, HPs, HR, Hg⟩
  iapply Hk
  isplitl [HO]; · iexact HO
  isplitl [Hb]; · iexact Hb
  isplitl [HY HN HU HPs HR]
  · iapply he
    isplitl [HY]; · iexact HY
    isplitl [HN]; · iexact HN
    isplitl [HU]; · iexact HU
    isplitl [HPs]; · iexact HPs
    iexact HR
  isplitl [Hi Hs Ho Hi' Hs' Ho']
  · isplitl [Hi Hs Ho]
    · isplitl [Hi]; · iexact Hi
      isplitl [Hs]; · iexact Hs
      iexact Ho
    isplitl [Hi']; · iexact Hi'
    isplitl [Hs']; · iexact Hs'
    iexact Ho'
  isplitl [P0 P1 P2 P0' P1' P2']
  · isplitl [P0 P1 P2]
    · isplitl [P0]; · iexact P0
      isplitl [P1]; · iexact P1
      iexact P2
    isplitl [P0']; · iexact P0'
    isplitl [P1']; · iexact P1'
    iexact P2'
  iexact Hg

/-! ## Closing the semaphores -/

theorem close (x : Cell) : iprop(invs I κ ∗ pos c x (rounds x)) ⊢ (iprop(|={Set.univ}=> semVal (gc c x) 0) : sProp 𝕄) := by
  iintro ⟨#HI, Hp⟩
  iapply (Rounds.cell_close ER (Rd I) (Set.mem_univ (κ (gc c x))) id (R := rounds x) fun r hr => by rw [Rd_duties]; exact dut_later x r hr)
  isplitr; · iapply (inv_at I κ c x); iexact HI
  iexact Hp

/-- An update of each of a family, all with the same facts at hand. -/
theorem each_fupd {ι : Type} [Fintype ι] [DecidableEq ι] {R : sProp 𝕄} [BI.Persistent R] {Φ Ψ : ι → sProp 𝕄}
    (h : ∀ i, iprop(R ∗ Φ i) ⊢ (iprop(|={Set.univ}=> Ψ i) : sProp 𝕄)) :
    iprop(R ∗ bigSep Finset.univ Φ) ⊢ (iprop(|={Set.univ}=> bigSep Finset.univ Ψ) : sProp 𝕄) :=
  BIBase.Entails.trans (bigSep_with_persistent fun i _ => h i) (bigSep_fupd _ _)

theorem close_slots (s : Fin 2) : iprop(invs I κ ∗ slotPos c s 8)
    ⊢ (iprop(|={Set.univ}=> bigSep Finset.univ fun a : Fin 3 => semVal (gc c (sl a s)) 0) : sProp 𝕄) := by
  unfold slotPos
  refine each_fupd fun a => ?_
  iintro ⟨#HI, Hp, -⟩
  iapply (close I κ c (sl a s))
  isplitr; · iexact HI
  iexact Hp

theorem close_chunks : iprop(invs I κ ∗ bigSep Finset.univ fun k : Fin 16 => bigSep Finset.univ fun a : Fin 8 => pos c (arr a k) 1)
    ⊢ (iprop(|={Set.univ}=> bigSep Finset.univ fun k : Fin 16 => bigSep Finset.univ fun a : Fin 8 => semVal (gc c (arr a k)) 0) : sProp 𝕄) :=
  each_fupd fun k => each_fupd fun a => close I κ c (arr a k)

/-- What device `c` holds when the body has returned: every semaphore at zero. -/
def exit (c : Dev nD) : sProp 𝕄 :=
  iprop(debts c 0 ∗ semVal (gc c bar) 0
    ∗ (bigSep Finset.univ (rowsEnd I c) ∗ bigSep Finset.univ fun k : Fin 16 => bigSep Finset.univ fun a : Fin 8 => semVal (gc c (arr a k)) 0)
    ∗ (slotRows c 0 ∗ slotRows c 1)
    ∗ ((bigSep Finset.univ fun a : Fin 3 => semVal (gc c (sl a 0)) 0) ∗ bigSep Finset.univ fun a : Fin 3 => semVal (gc c (sl a 1)) 0) ∗ gam I c)

theorem body_run {Q : Post F} :
    iprop(env I κ ∗ entry I c) ⊢ iprop((exit I c -∗ Q ⟨⟩) -∗ runs c body Q) := by
  have b := body_step I κ c (Q := Q)
  have t : env I κ ⊢ invs I κ := by unfold env; iintro ⟨H, -⟩; iexact H
  have r : runs c (.ret ⟨⟩ : KProg F) Q = iprop(|={Set.univ}=> Q ⟨⟩) := wp_ret _ _ _ _ _
  unfold leave at b
  unfold exit
  iintro ⟨#HE, HS⟩ Hk
  ihave #HV := t $$ HE
  iapply b $$ [HS]
  · isplitr; · iexact HE
    iexact HS
  iintro ⟨HO, Hb, ⟨HR, HP⟩, Hs, ⟨P, P'⟩, Hg⟩
  iapply (Entails.of_eq r.symm)
  imod (close I κ c bar) $$ [Hb] with Hb
  · isplitr; · iexact HV
    iexact Hb
  imod (close_chunks I κ c) $$ [HP] with HP
  · isplitr; · iexact HV
    iexact HP
  imod (close_slots I κ c 0) $$ [P] with P
  · isplitr; · iexact HV
    iexact P
  imod (close_slots I κ c 1) $$ [P'] with P'
  · isplitr; · iexact HV
    iexact P'
  imodintro
  iapply Hk
  isplitl [HO]; · iexact HO
  isplitl [Hb]; · iexact Hb
  isplitl [HR HP]
  · isplitl [HR]; · iexact HR
    iexact HP
  isplitl [Hs]; · iexact Hs
  isplitl [P P']
  · isplitl [P]; · iexact P
    iexact P'
  iexact Hg

end Cert.KernelIdeal.Talk
-- ==== Proof.RowsIdeal.lean ====
/-
The arrays and buffers cut into the rows that the kernel moves, and put together again.

A device's result is four quarters of sixteen chunks: its own, that of the neighbour across x, that of
the one across z, and that of the device across both. Its partial block and its residual are cut the
same way; of these it reads its own quarter alone.
-/
module

public import proofs.«01_k».proof.Proof.BodyIdeal
public import Idealize.ShloMosaic.Lib.Ring

@[expose] public section

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (I : Data F)

local notation "𝕄" => MT nD τ sig Unit (Elt F) ℕ UU ℕ

/-! ## Rows with and without the axis of extent one -/

section Flat

variable (c : Dev nD) {sp : Space} (m : Memref sig .tc sp S1x64x4096 .f32) (h : S1x64x4096.Squeezes S64x4096)

omit [FloatOps F] in
theorem flat_inj {X Y : Vec F S1x64x4096 .f32} (e : flat X = flat Y) : X = Y := by
  rw [← unflat_flat X, e, unflat_flat]

theorem at_flat (q : PosShare TreeShare) (X : Vec F S1x64x4096 .f32) :
    (at' c m q X : sProp 𝕄) ⊢ at' c (m.squeeze S64x4096 h) q (flat X) := by
  unfold at' owns
  iintro ⟨%f, %hf, H⟩
  iexists f
  isplitr
  · ipureintro
    show flat (m.view.read (Elt F) f) = flat X
    rw [hf]
  iapply (Entails.of_eq (congrArg (fun S => (pointsTo (m.view.loc (c : Thread nD τ)) S q f : sProp 𝕄))
    (View.set_reshape (v := m.view) (s' := S64x4096) h.numel_eq).symm)) $$ H

theorem at_unflat (q : PosShare TreeShare) (X : Vec F S1x64x4096 .f32) :
    (at' c (m.squeeze S64x4096 h) q (flat X) : sProp 𝕄) ⊢ at' c m q X := by
  unfold at' owns
  iintro ⟨%f, %hf, H⟩
  iexists f
  isplitr
  · ipureintro
    exact flat_inj hf
  iapply (Entails.of_eq (congrArg (fun S => (pointsTo (m.view.loc (c : Thread nD τ)) S q f : sProp 𝕄))
    (View.set_reshape (v := m.view) (s' := S64x4096) h.numel_eq))) $$ H

theorem any_flat : (any c m : sProp 𝕄) ⊢ any c (m.squeeze S64x4096 h) := by
  unfold any
  iintro H
  ihave H := (ownsSat_true (c : Thread nD τ) m fullShare).1 $$ H
  icases H with ⟨%X, H⟩
  iapply (any_of c (m.squeeze S64x4096 h) (flat X))
  iapply (at_flat c m h fullShare X) $$ H

theorem any_unflat : (any c (m.squeeze S64x4096 h) : sProp 𝕄) ⊢ any c m := by
  unfold any
  iintro H
  ihave H := (ownsSat_true (c : Thread nD τ) (m.squeeze S64x4096 h) fullShare).1 $$ H
  icases H with ⟨%X, H⟩
  iapply (any_of c m (unflat X))
  iapply (at_unflat c m h fullShare (unflat X))
  rw [flat_unflat]
  iexact H

end Flat

/-! ## The cuts -/

/-- The four devices whose quarters device `c`'s result is made of. -/
def four (c : Dev nD) (i : Fin 4) : Dev nD := ![c, devX c, devZ c, devX (devZ c)] i
/-- The number of device `d`'s quarter. -/
def quarter (d : Dev nD) : ℕ := 2 * (d.val / 4) + d.val % 2

theorem row2 (d : Dev nD) (k : Fin 16) : k0_off2 d (BitVec.ofNat 32 (64 * k.val)) = ![1024 * quarter d + 64 * k.val, 0] := by
  revert d k; decide +kernel
theorem row3 (d : Dev nD) (k : Fin 16) : k0_off1 d (BitVec.ofNat 32 (64 * k.val)) = ![0, 1024 * quarter d + 64 * k.val, 0] := by
  revert d k; decide +kernel
theorem quarter_inj (c : Dev nD) (i j : Fin 4) : quarter (four c i) = quarter (four c j) → i = j := by
  revert c i j; decide +kernel
theorem quarter_surj (c : Dev nD) (q : Fin 4) : ∃ i, quarter (four c i) = q.val := by
  revert c q; decide +kernel

/-- Chunk `p.2` of quarter `p.1`, in an array of the result's shape. -/
abbrev R2 (c : Dev nD) (p : Fin 4 × Fin 16) : Rect S4096x4096 :=
  Rect.unit (s := S4096x4096) (k0_off2 (four c p.1) (BitVec.ofNat 32 (64 * p.2.val))) S64x4096.size (k0_off2_inb (four c p.1) p.2)
/-- Chunk `p.2` of quarter `p.1`, in a partial block. -/
abbrev R3 (c : Dev nD) (p : Fin 4 × Fin 16) : Rect S1x4096x4096 :=
  Rect.unit (s := S1x4096x4096) (k0_off1 (four c p.1) (BitVec.ofNat 32 (64 * p.2.val))) S1x64x4096.size (k0_off1_inb (four c p.1) p.2)

theorem ne_rows (c : Dev nD) (p p' : Fin 4 × Fin 16) (h : p ≠ p') :
    1024 * quarter (four c p.1) + 64 * p.2.val + 64 ≤ 1024 * quarter (four c p'.1) + 64 * p'.2.val
      ∨ 1024 * quarter (four c p'.1) + 64 * p'.2.val + 64 ≤ 1024 * quarter (four c p.1) + 64 * p.2.val := by
  have hq : quarter (four c p.1) ≠ quarter (four c p'.1) ∨ p.2.val ≠ p'.2.val := by
    by_contra hn
    push Not at hn
    exact h (Prod.ext (quarter_inj c _ _ hn.1) (Fin.ext hn.2))
  have := p.2.isLt
  have := p'.2.isLt
  omega

theorem apart2 (c : Dev nD) (p p' : Fin 4 × Fin 16) (h : p ≠ p') : Disjoint (R2 c p).set (R2 c p').set := by
  refine Rect.unit_disjoint (0 : Fin 2) ?_
  rw [row2, row2]
  exact ne_rows c p p' h
theorem apart3 (c : Dev nD) (p p' : Fin 4 × Fin 16) (h : p ≠ p') : Disjoint (R3 c p).set (R3 c p').set := by
  refine Rect.unit_disjoint (1 : Fin 3) ?_
  rw [row3, row3]
  exact ne_rows c p p' h

/-- Which chunk of which quarter a row lies in. -/
theorem row_in (c : Dev nD) (r : ℕ) (h : r < 4096) : ∃ p : Fin 4 × Fin 16,
    1024 * quarter (four c p.1) + 64 * p.2.val ≤ r ∧ r < 1024 * quarter (four c p.1) + 64 * p.2.val + 64 := by
  obtain ⟨i, hi⟩ := quarter_surj c ⟨r / 1024, by omega⟩
  have hi' : quarter (four c i) = r / 1024 := hi
  refine ⟨(i, ⟨r % 1024 / 64, by omega⟩), ?_⟩
  show 1024 * quarter (four c i) + 64 * (r % 1024 / 64) ≤ r ∧ r < 1024 * quarter (four c i) + 64 * (r % 1024 / 64) + 64
  rw [hi']
  omega

theorem cover2 (c : Dev nD) : (Finset.univ : Finset (Fin 4 × Fin 16)).biUnion (fun p => (R2 c p).set) = Finset.univ := by
  ext i
  simp only [Finset.mem_biUnion, Finset.mem_univ, true_and, iff_true]
  obtain ⟨p, h1, h2⟩ := row_in c (i 0).val (i 0).isLt
  refine ⟨p, Rect.mem_set_unit.mpr ?_⟩
  rw [row2]
  intro a
  match a with
  | 0 => exact ⟨h1, h2⟩
  | 1 => exact ⟨Nat.zero_le _, (i 1).isLt.trans_eq (Nat.zero_add _).symm⟩
theorem cover3 (c : Dev nD) : (Finset.univ : Finset (Fin 4 × Fin 16)).biUnion (fun p => (R3 c p).set) = Finset.univ := by
  ext i
  simp only [Finset.mem_biUnion, Finset.mem_univ, true_and, iff_true]
  obtain ⟨p, h1, h2⟩ := row_in c (i 1).val (i 1).isLt
  refine ⟨p, Rect.mem_set_unit.mpr ?_⟩
  rw [row3]
  intro a
  match a with
  | 0 => exact ⟨Nat.zero_le _, (i 0).isLt.trans_eq (Nat.zero_add _).symm⟩
  | 1 => exact ⟨h1, h2⟩
  | 2 => exact ⟨Nat.zero_le _, (i 2).isLt.trans_eq (Nat.zero_add _).symm⟩

theorem apart_recv (k k' : Fin 16) (h : k ≠ k') : Disjoint (recvR k).set (recvR k').set :=
  Idealize.ShloMosaic.Ring.lead_disjoint (s := S16x64x4096) (0 : Fin 3) 1 (fun k : Fin 16 => ![k.val, 0, 0]) S1x64x4096.size inbRecv (fun b => (Nat.one_mul b.val).symm) rfl k k' h
theorem cover_recv : (Finset.univ : Finset (Fin 16)).biUnion (fun k => (recvR k).set) = Finset.univ :=
  Idealize.ShloMosaic.Ring.lead_cover (s := S16x64x4096) (0 : Fin 3) 1 (fun k : Fin 16 => ![k.val, 0, 0]) S1x64x4096.size inbRecv (fun b => (Nat.one_mul b.val).symm)
    (by decide) rfl (by decide) rfl
theorem apart_slot (k k' : Fin 2) (h : k ≠ k') : Disjoint (slotR k).set (slotR k').set :=
  Idealize.ShloMosaic.Ring.lead_disjoint (s := S2x64x4096) (0 : Fin 3) 1 (fun k : Fin 2 => ![k.val, 0, 0]) S1x64x4096.size inbSlot (fun b => (Nat.one_mul b.val).symm) rfl k k' h
theorem cover_slot : (Finset.univ : Finset (Fin 2)).biUnion (fun k => (slotR k).set) = Finset.univ :=
  Idealize.ShloMosaic.Ring.lead_cover (s := S2x64x4096) (0 : Fin 3) 1 (fun k : Fin 2 => ![k.val, 0, 0]) S1x64x4096.size inbSlot (fun b => (Nat.one_mul b.val).symm)
    (by decide) rfl (by decide) rfl

/-- Two families, side by side, as one family of pairs; and back. -/
theorem pair_up {ι : Type} [Fintype ι] {Φ Ψ : ι → sProp 𝕄} :
    iprop(bigSep Finset.univ Φ ∗ bigSep Finset.univ Ψ) ⊢ bigSep Finset.univ fun i => iprop(Φ i ∗ Ψ i) :=
  Entails.of_eq (bigSep_sep' Finset.univ Φ Ψ).symm
theorem unpair {ι : Type} [Fintype ι] {Φ Ψ : ι → sProp 𝕄} :
    (bigSep Finset.univ fun i => iprop(Φ i ∗ Ψ i)) ⊢ iprop(bigSep Finset.univ Φ ∗ bigSep Finset.univ Ψ) :=
  Entails.of_eq (bigSep_sep' Finset.univ Φ Ψ)

/-! ## One buffer into its rows, and back -/

section Cut

variable {T : Type} [Fintype T] [DecidableEq T] {sp : Space} {s : Shape} (c : Dev nD) (m : Memref sig .tc sp s .f32)
  (r : T → Rect s) (hr : ∀ t a, (r t).stride a = 1) (hd : ∀ t t', t ≠ t' → Disjoint (r t).set (r t').set)
  (hcov : (Finset.univ : Finset T).biUnion (fun t => (r t).set) = Finset.univ)

include hd hcov in
theorem any_cut : (any c m : sProp 𝕄) ⊢ bigSep Finset.univ fun t => any c (m.slice (r t) (hr t)) :=
  (ownsSat_mono _ _ _ fun _ _ _ => trivial).trans (ownsSat_rects (c : Thread nD τ) m fullShare r hr hd hcov fun _ _ => True)
include hd hcov in
theorem any_join : (bigSep Finset.univ fun t => any c (m.slice (r t) (hr t))) ⊢ (any c m : sProp 𝕄) :=
  (ownsSat_of_rects (c : Thread nD τ) m fullShare r hr hd hcov fun _ _ => True).trans (ownsSat_mono _ _ _ fun _ _ => trivial)

end Cut

theorem any_whole (c : Dev nD) (b : Ref sig .tc) :
    (iprop(∃ f, (c.tc : Thread nD τ).loc b ↦{fullShare} f) : sProp 𝕄) ⊣⊢ ownsSat (c.tc : Thread nD τ) (Memref.whole b) fullShare (fun _ => True) := by
  refine BIBase.BiEntails.trans ?_ (ownsSat_true (c.tc : Thread nD τ) (Memref.whole b) fullShare).symm
  constructor
  · iintro ⟨%f, H⟩
    iexists f
    iapply (Entails.of_eq (owns_whole (c.tc : Thread nD τ) b fullShare f).symm) $$ H
  · iintro ⟨%f, H⟩
    iexists f
    iapply (Entails.of_eq (owns_whole (c.tc : Thread nD τ) b fullShare f)) $$ H

theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- The chunks of the four quarters: those of the device's own, and the others. -/
theorem own_rest (Φ : Fin 4 × Fin 16 → sProp 𝕄) : bigSep Finset.univ Φ
    = iprop((bigSep Finset.univ fun k => Φ (0, k)) ∗ bigSep (Finset.univ.erase 0) fun i => bigSep Finset.univ fun k => Φ (i, k)) := by
  rw [bigSep_univ_prod, bigSep_univ_split (0 : Fin 4)]
  rfl
theorem by_chunk (Φ : Fin 4 × Fin 16 → sProp 𝕄) : bigSep Finset.univ Φ
    = bigSep Finset.univ fun k => iprop(Φ (0, k) ∗ Φ (1, k) ∗ Φ (2, k) ∗ Φ (3, k)) := by
  rw [bigSep_univ_prod, bigSep_univ_comm]
  exact bigSep_congr fun k _ => bigSep_fin4 _

/-! ## All of a device's buffers -/

variable (c : Dev nD) (k : Fin 16)

/-- The partial block's rows `p`. -/
abbrev partP (p : Fin 4 × Fin 16) : sProp 𝕄 :=
  at' c ((Memref.whole main_arg0 : Memref sig .tc .hbm S1x4096x4096 .f32).slice (R3 c p) (fun _ => rfl)) fullShare fun j => I.part c ((R3 c p).emb j)
/-- The residual's rows `p`. -/
abbrev residP (p : Fin 4 × Fin 16) : sProp 𝕄 :=
  at' c ((Memref.whole main_arg1 : Memref sig .tc .hbm S4096x4096 .f32).slice (R2 c p) (fun _ => rfl)) fullShare fun j => I.resid c ((R2 c p).emb j)
/-- The rows that the device holds and does not read. -/
def rest : sProp 𝕄 :=
  iprop((bigSep (Finset.univ.erase 0) fun i => bigSep Finset.univ fun k => partP I c (i, k))
    ∗ bigSep (Finset.univ.erase 0) fun i => bigSep Finset.univ fun k => residP I c (i, k))

/-- What the result holds when all is done. -/
def outVal : Vec F S4096x4096 .f32 :=
  Rect.glue (R2 c) (cover2 c) fun p => flat (fin I (four c p.1) p.2)

/-- The two arrays read, whole. -/
abbrev ins : sProp 𝕄 :=
  iprop(at' c (Memref.whole main_arg0 : Memref sig .tc .hbm S1x4096x4096 .f32) fullShare (I.part c)
    ∗ at' c (Memref.whole main_arg1 : Memref sig .tc .hbm S4096x4096 .f32) fullShare (I.resid c))
/-- The four buffers of the region's own, whatever they hold. -/
abbrev bufs4 : sProp 𝕄 :=
  iprop(any c (Memref.whole cc0_scratch0 : Memref sig .tc .vmem S16x64x4096 .f32) ∗ any c (Memref.whole cc0_scratch1 : Memref sig .tc .vmem S2x64x4096 .f32)
    ∗ any c (Memref.whole cc0_scratch2 : Memref sig .tc .vmem S2x64x4096 .f32) ∗ any c (Memref.whole cc0_scratch3 : Memref sig .tc .vmem S2x64x4096 .f32))

theorem part_cut : (partP I c (0, k) : sProp 𝕄) ⊢ iprop(at' c (partM c k) qL (flat (own I c k)) ∗ at' c (partM c k) fullShare.right (flat (own I c k))) :=
  (at_flat c _ squeezes_S1x64x4096_S64x4096 fullShare (own I c k)).trans (owns_halves _ _ _ _).1
theorem part_join : iprop(at' c (partM c k) qL (flat (own I c k)) ∗ at' c (partM c k) fullShare.right (flat (own I c k))) ⊢ (partP I c (0, k) : sProp 𝕄) :=
  (owns_halves _ _ _ _).2.trans (at_unflat c _ squeezes_S1x64x4096_S64x4096 fullShare (own I c k))

theorem slots_cut (m : Memref sig .tc .vmem S2x64x4096 .f32) : (any c m : sProp 𝕄)
    ⊢ iprop(any c ((m.slice (slotR 0) (fun _ => rfl)).squeeze S64x4096 squeezes_S1x64x4096_S64x4096)
      ∗ any c ((m.slice (slotR 1) (fun _ => rfl)).squeeze S64x4096 squeezes_S1x64x4096_S64x4096)) := by
  refine (any_cut c m slotR (fun _ _ => rfl) apart_slot cover_slot).trans ?_
  rw [BI.bigSep_fin_two]
  exact BIClass.sep_mono (any_flat _ _ _) (any_flat _ _ _)
theorem slots_join (m : Memref sig .tc .vmem S2x64x4096 .f32) :
    iprop(any c ((m.slice (slotR 0) (fun _ => rfl)).squeeze S64x4096 squeezes_S1x64x4096_S64x4096)
      ∗ any c ((m.slice (slotR 1) (fun _ => rfl)).squeeze S64x4096 squeezes_S1x64x4096_S64x4096)) ⊢ (any c m : sProp 𝕄) := by
  refine BIBase.Entails.trans ?_ (any_join c m slotR (fun _ _ => rfl) apart_slot cover_slot)
  rw [BI.bigSep_fin_two]
  exact BIClass.sep_mono (any_unflat _ _ _) (any_unflat _ _ _)

theorem recv_cut : (any c (Memref.whole cc0_scratch0 : Memref sig .tc .vmem S16x64x4096 .f32) : sProp 𝕄) ⊢ bigSep Finset.univ fun k => any c (recvM k) :=
  (any_cut c _ recvR (fun _ _ => rfl) apart_recv cover_recv).trans (bigSep_mono fun _ _ => any_flat _ _ _)
theorem recv_join : (bigSep Finset.univ fun k => any c (recvM k)) ⊢ (any c (Memref.whole cc0_scratch0 : Memref sig .tc .vmem S16x64x4096 .f32) : sProp 𝕄) :=
  (bigSep_mono fun _ _ => any_unflat _ _ _).trans (any_join c _ recvR (fun _ _ => rfl) apart_recv cover_recv)

theorem ins_chunks : (bigSep Finset.univ fun k => iprop(partP I c (0, k) ∗ residP I c (0, k)))
    ⊢ (bigSep Finset.univ fun k => iprop(at' c (partM c k) qL (flat (own I c k)) ∗ inD I c k) : sProp 𝕄) :=
  bigSep_mono fun k _ => by
    show (_ : sProp 𝕄) ⊢ _
    unfold inD
    iintro ⟨H1, H3⟩
    ihave H1 := (part_cut I c k) $$ H1
    icases H1 with ⟨H1, H2⟩
    iframe
    iexact H3
theorem chunks_ins : (bigSep Finset.univ fun k => iprop(at' c (partM c k) qL (flat (own I c k)) ∗ inD I c k))
    ⊢ (bigSep Finset.univ fun k => iprop(partP I c (0, k) ∗ residP I c (0, k)) : sProp 𝕄) :=
  bigSep_mono fun k _ => by
    show (_ : sProp 𝕄) ⊢ _
    iintro ⟨H1, H2, H3⟩
    isplitl [H1 H2]
    · iapply (part_join I c k)
      iframe
    iexact H3

theorem ins_cut : (ins I c : sProp 𝕄)
    ⊢ iprop((bigSep Finset.univ fun k => iprop(at' c (partM c k) qL (flat (own I c k)) ∗ inD I c k)) ∗ rest I c) := by
  unfold ins rest
  iintro ⟨H0, H1⟩
  ihave H0 := (owns_rects (c : Thread nD τ) _ fullShare (R3 c) (fun _ _ => rfl) (apart3 c) (cover3 c) (I.part c)) $$ H0
  ihave H1 := (owns_rects (c : Thread nD τ) _ fullShare (R2 c) (fun _ _ => rfl) (apart2 c) (cover2 c) (I.resid c)) $$ H1
  ihave H0 := (Entails.of_eq (own_rest (partP I c))) $$ H0
  ihave H1 := (Entails.of_eq (own_rest (residP I c))) $$ H1
  icases H0 with ⟨A, A'⟩
  icases H1 with ⟨B, B'⟩
  iframe
  ihave H := pair_up $$ [A B]
  · isplitl [A]
    · iexact A
    iexact B
  iapply (ins_chunks I c) $$ H
theorem ins_join : iprop((bigSep Finset.univ fun k => iprop(at' c (partM c k) qL (flat (own I c k)) ∗ inD I c k)) ∗ rest I c) ⊢ (ins I c : sProp 𝕄) := by
  unfold ins rest
  iintro ⟨H, A', B'⟩
  ihave H := (chunks_ins I c) $$ H
  ihave H := unpair $$ H
  icases H with ⟨A, B⟩
  isplitl [A A']
  · iapply (owns_of_rects (c : Thread nD τ) _ fullShare (R3 c) (fun _ _ => rfl) (apart3 c) (cover3 c) (I.part c))
    iapply (Entails.of_eq (own_rest (partP I c)).symm)
    iframe
  · iapply (owns_of_rects (c : Thread nD τ) _ fullShare (R2 c) (fun _ _ => rfl) (apart2 c) (cover2 c) (I.resid c))
    iapply (Entails.of_eq (own_rest (residP I c)).symm)
    iframe

theorem out_cut : (any c (Memref.whole main_v2 : Memref sig .tc .hbm S4096x4096 .f32) : sProp 𝕄)
    ⊢ bigSep Finset.univ fun k => iprop(any c (ownM c k) ∗ any c (xqM c k) ∗ any c (zqM c k) ∗ any c (dqM c k)) := by
  refine (any_cut c _ (R2 c) (fun _ _ => rfl) (apart2 c) (cover2 c)).trans ?_
  rw [by_chunk (F := F)]
  refine bigSep_mono fun k _ => ?_
  show (_ : sProp 𝕄) ⊢ _
  rw [xqM_eq, zqM_eq, dqM_eq]
  exact .refl
theorem out_join : (bigSep Finset.univ fun k => iprop(at' c (ownM c k) fullShare (flat (fin I c k)) ∗ at' c (xqM c k) fullShare (flat (fin I (devX c) k))
      ∗ at' c (zqM c k) fullShare (flat (fin I (devZ c) k)) ∗ at' c (dqM c k) fullShare (flat (fin I (devX (devZ c)) k))))
    ⊢ (at' c (Memref.whole main_v2 : Memref sig .tc .hbm S4096x4096 .f32) fullShare (outVal I c) : sProp 𝕄) := by
  refine BIBase.Entails.trans ?_ (owns_of_rects (c : Thread nD τ) _ fullShare (R2 c) (fun _ _ => rfl) (apart2 c) (cover2 c) (outVal I c))
  have e (p : Fin 4 × Fin 16) : (fun j => outVal I c ((R2 c p).emb j)) = flat (fin I (four c p.1) p.2) :=
    funext fun y => Rect.glue_emb (R2 c) (cover2 c) (apart2 c) (fun p => flat (fin I (four c p.1) p.2)) p y
  simp only [e]
  rw [by_chunk (F := F)]
  refine bigSep_mono fun k _ => ?_
  show (_ : sProp 𝕄) ⊢ _
  rw [xqM_eq, zqM_eq, dqM_eq]
  exact .refl

theorem chunk_begin : (bigSep Finset.univ fun k => iprop(((at' c (partM c k) qL (flat (own I c k)) ∗ inD I c k)
      ∗ any c (ownM c k) ∗ any c (xqM c k) ∗ any c (zqM c k) ∗ any c (dqM c k)) ∗ any c (recvM k)))
    ⊢ (bigSep Finset.univ fun k => iprop(rowsKept I c k ∗ rowsLent c k) : sProp 𝕄) :=
  bigSep_mono fun k _ => by
    show (_ : sProp 𝕄) ⊢ _
    unfold rowsKept rowsLent inD
    iintro ⟨⟨⟨H1, H2, H3⟩, H4, H5, H6, H7⟩, H8⟩
    iframe

theorem rows_begin : iprop(ins I c ∗ any c (Memref.whole main_v2 : Memref sig .tc .hbm S4096x4096 .f32) ∗ bufs4 c)
    ⊢ (iprop((bigSep Finset.univ fun k => iprop(rowsKept I c k ∗ rowsLent c k)) ∗ (slotRows c 0 ∗ slotRows c 1) ∗ rest I c) : sProp 𝕄) := by
  unfold bufs4 slotRows
  iintro ⟨Hi, Ho, H0, H1, H2, H3⟩
  ihave Hi := (ins_cut I c) $$ Hi
  icases Hi with ⟨Hi, Hrest⟩
  ihave Ho := (out_cut c) $$ Ho
  ihave H0 := (recv_cut c) $$ H0
  ihave H1 := (slots_cut c _) $$ H1
  ihave H2 := (slots_cut c _) $$ H2
  ihave H3 := (slots_cut c _) $$ H3
  icases H1 with ⟨H1, H1'⟩
  icases H2 with ⟨H2, H2'⟩
  icases H3 with ⟨H3, H3'⟩
  iframe
  ihave H := pair_up $$ [Hi Ho]
  · isplitl [Hi]
    · iexact Hi
    iexact Ho
  ihave H := pair_up $$ [H H0]
  · isplitl [H]
    · iexact H
    iexact H0
  iapply (chunk_begin I c) $$ H

theorem rows_end : iprop(bigSep Finset.univ (rowsEnd I c) ∗ (slotRows c 0 ∗ slotRows c 1) ∗ rest I c)
    ⊢ (iprop(ins I c ∗ at' c (Memref.whole main_v2 : Memref sig .tc .hbm S4096x4096 .f32) fullShare (outVal I c) ∗ bufs4 c) : sProp 𝕄) := by
  unfold bufs4 slotRows
  iintro ⟨H, ⟨⟨H1, H2, H3⟩, H1', H2', H3'⟩, Hrest⟩
  ihave H := unpair $$ H
  icases H with ⟨H, Ho⟩
  ihave H := unpair $$ H
  icases H with ⟨H0, Hi⟩
  isplitl [Hi Hrest]
  · iapply (ins_join I c)
    iframe
  isplitl [Ho]
  · iapply (out_join I c) $$ Ho
  isplitl [H0]
  · iapply (recv_join c) $$ H0
  isplitl [H1 H1']
  · iapply (slots_join c _)
    iframe
  isplitl [H2 H2']
  · iapply (slots_join c _)
    iframe
  · iapply (slots_join c _)
    iframe

end Cert.KernelIdeal.Talk
-- ==== Proof.RegionIdeal.lean ====
/-
The kernel's region: what it is entered with, its one point, and what it leaves.

Its own semaphores are opened when it is entered and are back at zero when its body returns. The weights
come through the pipeline's one window; the other arrays are addressed by the body.
-/
module

public import proofs.«01_k».proof.Proof.RowsIdeal
public import Idealize.ShloMosaic.Lib.Pipeline.RegionTalk
public import proofs.«01_k».proof.Proof.Gen.KernelIdeal.Frame

@[expose] public section

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)

variable {F : FTy → Type} [FloatOps F]

local notation "𝕄" => MT nD τ sig Unit (Elt F) ℕ UU ℕ

variable (m : (ℓ : Loc nD τ sig) → Buf (Elt F) ℓ)

/-- The arrays as launched, and the weights' block as the pipeline fetches it. -/
def dataOf : Data F where
  part c := m ((c : Thread nD τ).loc main_arg0)
  resid c := m ((c : Thread nD τ).loc main_arg1)
  gamma c := iblk m c 0 t0_0

/-- The device's buffers when the region is entered, -/
def W₁ (c : Dev nD) : Valuation τ sig (Elt F) := StableHlo.after hostOps0 (fun b => m (c, b))
/-- and when it is left: the result alone has changed. -/
def W₂ (c : Dev nD) : Valuation τ sig (Elt F) := Function.update (W₁ m c) (Proc.devRef .tc main_v2) (outVal (dataOf m) c)

theorem W₁_arg0 (c : Dev nD) : W₁ m c (Proc.devRef .tc main_arg0) = (dataOf m).part c := V_main_arg0 m c
theorem W₁_arg1 (c : Dev nD) : W₁ m c (Proc.devRef .tc main_arg1) = (dataOf m).resid c := V_main_arg1 m c
theorem W₂_out (c : Dev nD) : W₂ m c (Proc.devRef .tc main_v2) = outVal (dataOf m) c := Function.update_self ..
theorem W₂_of_ne (c : Dev nD) (b : DevRef τ sig) (h : b ≠ Proc.devRef .tc main_v2) : W₂ m c b = W₁ m c b := Function.update_of_ne h ..

/-! ## The region's own semaphores -/

/-- All but the barrier. -/
abbrev Own : Type := (Fin 8 × Fin 16) ⊕ (Fin 3 × Fin 2)
def osem (x : Own) : SemLoc sig := semOf (.inr x)

theorem osem_facts : Pipeline.OwnSemFacts spec0 osem where
  isScoped := by decide +kernel
  inj _ _ h := Sum.inr_injective (semOf_inj h)
  disj := by decide +kernel

/-- A family over the region's own semaphores, chunk by chunk and slot by slot. -/
theorem by_array (Φ : Own → sProp 𝕄) : bigSep Finset.univ Φ
    = iprop((bigSep Finset.univ fun k : Fin 16 => bigSep Finset.univ fun a : Fin 8 => Φ (.inl (a, k)))
      ∗ (bigSep Finset.univ fun a : Fin 3 => Φ (.inr (a, 0))) ∗ bigSep Finset.univ fun a : Fin 3 => Φ (.inr (a, 1))) := by
  rw [bigSep_univ_sum, bigSep_univ_prod, bigSep_univ_prod, bigSep_univ_comm, bigSep_univ_comm (fun (a : Fin 3) (s : Fin 2) => Φ (.inr (a, s))),
    BI.bigSep_fin_two]
  rfl

variable (c : Dev nD)

/-! ## What the region is entered with -/

/-- The rights and units that a device has from launch for its own work. -/
def dealt : sProp 𝕄 := iprop(barHeld c ∗ bigSep Finset.univ fun k : Fin 16 => iprop(toks c k ∗ units c k))
/-- From launch, the region's own semaphores not opened. -/
def Tk : sProp 𝕄 := iprop((∃ κ, invs (dataOf m) κ) ∗ dealt c ∗ bigSep Finset.univ fun x : Own => openTok ER (gc c (.inr x)))
/-- The same with them opened. -/
def Xk : sProp 𝕄 := iprop((∃ κ, env (dataOf m) κ) ∗ dealt c ∗ bigSep Finset.univ fun x : Own => place c (.inr x))
/-- The buffers that the body addresses, when it begins, -/
def rows₀ : sProp 𝕄 := iprop(ins (dataOf m) c ∗ any c (Memref.whole main_v2 : Memref sig .tc .hbm S4096x4096 .f32) ∗ bufs4 c)
/-- and when it is done. -/
def rows₁ : sProp 𝕄 :=
  iprop(ins (dataOf m) c ∗ at' c (Memref.whole main_v2 : Memref sig .tc .hbm S4096x4096 .f32) fullShare (outVal (dataOf m) c) ∗ bufs4 c)
/-- Its own semaphores back at zero. -/
def zeros : sProp 𝕄 := bigSep Finset.univ fun x : Own => semVal (gc c (.inr x)) 0

theorem own_open (κ : GSem nD τ sig → ℕ) : iprop(invs (dataOf m) κ ∗ (bigSep Finset.univ fun x : Own => openTok ER (gc c (.inr x))) ∗ zeros c)
    ⊢ (iprop(|={Set.univ}=> bigSep Finset.univ fun x : Own => place c (.inr x)) : sProp 𝕄) := by
  unfold zeros
  iintro ⟨#HI, Ho, Hz⟩
  ihave H := pair_up $$ [Ho Hz]
  · isplitl [Ho]; · iexact Ho
    iexact Hz
  iapply (each_fupd (R := invs (dataOf m) κ) (Φ := fun x : Own => iprop(openTok ER (gc c (.inr x)) ∗ semVal (gc c (.inr x)) 0))
    (Ψ := fun x : Own => place c (.inr x)) fun x => by
      iintro ⟨#HI, Ho, Hz⟩
      iapply (Rounds.cell_open ER (Rd (dataOf m)) (g := gc c (.inr x)) (Set.mem_univ (κ (gc c (.inr x)))))
      isplitr; · iapply (inv_at (dataOf m) κ c (.inr x)); iexact HI
      isplitl [Ho]; · iexact Ho
      iexact Hz)
  isplitr; · iexact HI
  iexact H

theorem ownSems_eq : (Pipeline.ownSems0 osem c : sProp 𝕄) = zeros c := rfl

theorem region_open : iprop(Tk m c ∗ Pipeline.ownSems0 osem c ∗ levAts L lv) ⊢ (|={Set.univ}=> Xk m c : sProp 𝕄) := by
  rw [ownSems_eq]
  unfold Tk Xk
  iintro ⟨⟨⟨%κ, #HI⟩, Hd, Ho⟩, Hz, #HL⟩
  imod (own_open m c κ) $$ [Ho Hz] with Hp
  · isplitr; · iexact HI
    isplitl [Ho]; · iexact Ho
    iexact Hz
  imodintro
  isplitr
  · iexists κ
    unfold env
    isplitr; · iexact HI
    iexact HL
  isplitl [Hd]; · iexact Hd
  iexact Hp

theorem items (I : Data F) : (bigSep Finset.univ fun k : Fin 16 => iprop((rowsKept I c k ∗ rowsLent c k) ∗ (toks c k ∗ units c k)
      ∗ bigSep Finset.univ fun a : Fin 8 => place c (arr a k)))
    ⊢ (bigSep Finset.univ (item I c) : sProp 𝕄) :=
  bigSep_mono fun k _ => by
    show (_ : sProp 𝕄) ⊢ _
    unfold item places
    iintro ⟨⟨H1, H2⟩, ⟨H3, H4⟩, H5⟩
    isplitl [H1]; · iexact H1
    isplitl [H2]; · iexact H2
    isplitl [H3]; · iexact H3
    isplitl [H4]; · iexact H4
    iexact H5

/-- What the region is entered with is what the body begins with. -/
theorem enter : iprop(dealt c ∗ (bigSep Finset.univ fun x : Own => place c (.inr x)) ∗ rows₀ m c ∗ debts c (O₀ c) ∗ gam (dataOf m) c)
    ⊢ iprop(rest (dataOf m) c ∗ entry (dataOf m) c) := by
  unfold dealt rows₀ entry slotPos
  rw [by_array]
  iintro ⟨⟨Hb, Ht⟩, ⟨Hp, Hs⟩, Hr, HO, Hg⟩
  ihave Hr := (rows_begin (dataOf m) c) $$ Hr
  icases Hr with ⟨Hr, Hsl, Hrest⟩
  iframe
  ihave H := pair_up $$ [Ht Hp]
  · isplitl [Ht]; · iexact Ht
    iexact Hp
  ihave H := pair_up $$ [Hr H]
  · isplitl [Hr]; · iexact Hr
    iexact H
  iapply (items c (dataOf m)) $$ H

/-- What the body ends with is what the region leaves. -/
theorem depart : iprop(rest (dataOf m) c ∗ exit (dataOf m) c)
    ⊢ iprop((semVal (gc c bar) 0 ∗ zeros c ∗ rows₁ m c) ∗ debts c 0 ∗ gam (dataOf m) c) := by
  unfold rows₁ zeros exit
  rw [by_array]
  iintro ⟨Hrest, HO, Hb, ⟨Hr, Hp⟩, Hsl, Hs, Hg⟩
  ihave Hr := (rows_end (dataOf m) c) $$ [Hr Hsl Hrest]
  · isplitl [Hr]; · iexact Hr
    isplitl [Hsl]; · iexact Hsl
    iexact Hrest
  iframe

/-! ## The proof data, and the region's point -/

/-- The weights' window in place throughout; the debts paid by the one point. -/
def dat : Dat τ (Elt F) Unit ℕ UU ℕ cfg0 c where
  A w := V m c (Pipeline.arrRef spec0 w)
  after := fun
    | 0 => iblk m c 0
    | ⟨_ + 1, h⟩ => absurd h (Nat.not_lt.2 (Nat.le_add_left _ _))
  Φ t := if t.val = 0 then iprop(Xk m c ∗ rows₀ m c ∗ ∃ r, prngReg c r)
    else iprop((semVal (gc c bar) 0 ∗ zeros c ∗ rows₁ m c) ∗ ∃ r, prngReg c r)
  q _ := fullShare
  owed t := if t.val = 0 then O₀ c else 0

theorem before_gamma (t : Fin cfg0.N) (d) : (dat m c).before 0 t d = iblk m c 0 t :=
  ((dat m c).before_in_eq_fetched 0 rfl (fun _ => rfl) (fun _ _ _ => rfl) (fun _ => rfl) t d).trans rfl

theorem owed_eq (t : Fin (cfg0.N + 1)) : (dat m c).owed t = if t.val = 0 then O₀ c else 0 := rfl
theorem inv_eq (t : Fin (cfg0.N + 1)) : (dat m c).Φ t = if t.val = 0 then iprop(Xk m c ∗ rows₀ m c ∗ ∃ r, prngReg c r)
    else iprop((semVal (gc c bar) 0 ∗ zeros c ∗ rows₁ m c) ∗ ∃ r, prngReg c r) := rfl
theorem owed_first (t : Fin (cfg0.N + 1)) (h : t.val = 0) : (dat m c).owed t = O₀ c := by rw [owed_eq, if_pos h]
theorem owed_last (t : Fin (cfg0.N + 1)) (h : t.val ≠ 0) : (dat m c).owed t = 0 := by rw [owed_eq, if_neg h]
theorem inv_first (t : Fin (cfg0.N + 1)) (h : t.val = 0) : (dat m c).Φ t = iprop(Xk m c ∗ rows₀ m c ∗ ∃ r, prngReg c r) := by
  rw [inv_eq, if_pos h]
theorem inv_last (t : Fin (cfg0.N + 1)) (h : t.val ≠ 0) :
    (dat m c).Φ t = iprop((semVal (gc c bar) 0 ∗ zeros c ∗ rows₁ m c) ∗ ∃ r, prngReg c r) := by
  rw [inv_eq, if_neg h]

theorem owesAt_intro (t : Fin (cfg0.N + 1)) (O : CellTallies nD τ sig Unit) (h : (dat m c).owed t = O) :
    debts c O ⊢ ((dat m c).owesAt () t : sProp 𝕄) := by
  unfold debts Dat.owesAt Pipeline.owesWithin Dat.bound
  rw [h, show (dat m c).recorded t = Set.univ from rfl]
  iintro ⟨%W, HO⟩
  iexists W
  isplitr
  · ipureintro
    exact fun _ _ => Or.inl trivial
  iexact HO
theorem owesAt_elim (t : Fin (cfg0.N + 1)) (O : CellTallies nD τ sig Unit) (h : (dat m c).owed t = O) :
    ((dat m c).owesAt () t : sProp 𝕄) ⊢ debts c O := by
  unfold debts Dat.owesAt Pipeline.owesWithin
  rw [h]
  iintro ⟨%W, -, HO⟩
  iexists W
  iexact HO

theorem body_at : defs₀ (F := F) .tc cfg0.body (cfg0.bodyArgs t0_0 (cfg0.slots t0_0)) = body := body_eq

theorem window_after : (owns (c : Thread nD τ) ((cfg0.win 0).stage (cfg0.slots t0_0 0)) fullShare ((dat m c).after 0 t0_0) : sProp 𝕄) = gam (dataOf m) c := rfl
theorem window_before (d) : (owns (c : Thread nD τ) ((cfg0.win 0).stage (cfg0.slots t0_0 0)) fullShare ((dat m c).before 0 t0_0 d) : sProp 𝕄)
    = gam (dataOf m) c := by
  rw [before_gamma]
  rfl
theorem never_idle : cfg0.idle 0 (cfg0.grid.coords t0_0) = false := rfl

theorem point : BodyObligation (dat m c) (defs₀ (F := F)) Variants.none () Set.univ := fun t => by
  obtain rfl := fin_N0 t
  rw [bigSep_W0, bigSep_W0]
  rw [inv_first m c t0_0.castSucc rfl, inv_last m c t0_0.succ (Nat.succ_ne_zero _)]
  rw [body_at]
  simp only [window_before, window_after, never_idle]
  unfold Xk
  iintro ⟨⟨⟨⟨%κ, #HE⟩, Hd, Hp⟩, Hr, Hreg⟩, HO, ⟨%d, Hg⟩⟩
  ihave HO := (owesAt_elim m c _ _ (owed_first m c _ rfl)) $$ HO
  ihave H := (enter m c) $$ [Hd Hp Hr HO Hg]
  · isplitl [Hd]; · iexact Hd
    isplitl [Hp]; · iexact Hp
    isplitl [Hr]; · iexact Hr
    isplitl [HO]; · iexact HO
    iexact Hg
  icases H with ⟨Hrest, H⟩
  iapply (body_run (dataOf m) κ c) $$ [H]
  · isplitr; · iexact HE
    iexact H
  iintro H
  ihave H := (depart m c) $$ [Hrest H]
  · isplitl [Hrest]; · iexact Hrest
    iexact H
  icases H with ⟨H, HO, Hg⟩
  isplitl [H Hreg]
  · isplitl [H]; · iexact H
    iexact Hreg
  isplitl [HO]
  · iapply (owesAt_intro m c _ _ (owed_last m c _ (Nat.succ_ne_zero _))) $$ HO
  iexact Hg

end Cert.KernelIdeal.Talk
-- ==== Proof.TokensIdeal.lean ====
/-
What a launch deals to the devices: the semaphores' cells, the rights to pay each duty, and the units
that each device's waits will spend.

Rights come sorted by the semaphore they pay; each goes to the device that pays it. Units come sorted by
the device that owes them; each goes to the device it is owed to. A neighbour map is its own inverse, so
both are one renaming of the devices per kind.
-/
module

public import proofs.«01_k».proof.Proof.RegionIdeal

@[expose] public section

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The cells -/

theorem gc_inj {c d : Dev nD} {x y : Cell} (h : gc c x = gc d y) : c = d ∧ x = y :=
  ⟨congrArg (fun g : GSem nD τ sig => g.1.1) h, semOf_inj (congrArg Prod.snd h)⟩

def barEmb : Dev nD ↪ GSem nD τ sig := ⟨fun c => gc c bar, fun _ _ h => (gc_inj h).1⟩
def ownEmb : Dev nD × Own ↪ GSem nD τ sig :=
  ⟨fun p => gc p.1 (.inr p.2), fun _ _ h => Prod.ext (gc_inj h).1 (Sum.inr_injective (gc_inj h).2)⟩

/-- The barriers, live from launch; the region's own semaphores, opened when it is entered. -/
abbrev barCells : Finset (GSem nD τ sig) := Finset.univ.map barEmb
abbrev ownCells : Finset (GSem nD τ sig) := Finset.univ.map ownEmb

theorem cells_disjoint : Disjoint (barCells : Finset (GSem nD τ sig)) ownCells := by
  rw [Finset.disjoint_left]
  rintro g h₁ h₂
  obtain ⟨c, -, rfl⟩ := Finset.mem_map.mp h₁
  obtain ⟨p, -, h⟩ := Finset.mem_map.mp h₂
  exact Sum.inr_ne_inl (gc_inj h).2

/-- Together they are every semaphore of every device. -/
theorem invs_intro (I : Data F) (κ : GSem nD τ sig → ℕ) :
    (bigSep (barCells ∪ ownCells) fun g => cellInv ER (Rd I) (κ g) g) ⊢ (invs I κ : sProp 𝕄) := by
  rw [bigSep_union cells_disjoint, bigSep_map, bigSep_map]
  unfold invs
  have e (c : Dev nD) : (bigSep Finset.univ fun x : Cell => cellInv ER (Rd I) (κ (gc c x)) (gc c x))
      = iprop(cellInv ER (Rd I) (κ (gc c bar)) (gc c bar) ∗ bigSep Finset.univ fun x : Own => cellInv ER (Rd I) (κ (gc c (.inr x))) (gc c (.inr x))) := by
    rw [BI.bigSep_univ_sum]
    exact congrArg (fun X => iprop(X ∗ _)) (bigSep_singleton (i := ()) (Φ := fun u : Unit => cellInv ER (Rd I) (κ (gc c (.inl u))) (gc c (.inl u))))
  rw [BI.bigSep_univ_prod, BI.bigSep_univ_prod, bigSep_congr fun c _ => e c, bigSep_sep']
  exact .rfl

/-! ## The rights to pay -/

/-- A device's duties: three of its barrier, one of each chunk's semaphore, one of each slot's for each chunk it carries. -/
abbrev Duty : Type := Fin 3 ⊕ (Fin 8 × Fin 16) ⊕ (Fin 3 × Fin 16)
def dutyOf : Duty → Cell × ℕ × Fin 3
  | .inl d => (bar, 0, d)
  | .inr (.inl (a, k)) => (arr a k, 0, 0)
  | .inr (.inr (a, k)) => (sl a (slot k), k.val / 2, 0)

theorem dutyOf_inj : Function.Injective dutyOf := by
  rintro (d | ⟨a, k⟩ | ⟨a, k⟩) (d' | ⟨a', k'⟩ | ⟨a', k'⟩) h <;>
    simp only [dutyOf, Prod.mk.injEq, Sum.inl.injEq, Sum.inr.injEq, reduceCtorEq, false_and, true_and, and_true] at h ⊢
  · exact h
  · exact h
  · obtain ⟨⟨h₁, h₂⟩, h₃⟩ := h
    refine ⟨h₁, ?_⟩
    rw [← chunk_slot k, ← chunk_slot k', h₂, h₃]

def dutyEmb : Dev nD × Duty ↪ GSem nD τ sig × ℕ × Fin 3 :=
  ⟨fun p => (gc p.1 (dutyOf p.2).1, (dutyOf p.2).2), fun p q h => by
    have h' := Prod.mk.inj h
    exact Prod.ext (gc_inj h'.1).1 (dutyOf_inj (Prod.ext (gc_inj h'.1).2 h'.2))⟩
abbrev talkToks : Finset (GSem nD τ sig × ℕ × Fin 3) := Finset.univ.map dutyEmb

/-- The rights to pay device `c`'s barrier, -/
def barToks (c : Dev nD) : sProp 𝕄 := iprop(dutyTok ER (gc c bar) 0 0 ∗ dutyTok ER (gc c bar) 0 1 ∗ dutyTok ER (gc c bar) 0 2)
/-- and its semaphores of chunk `k`. -/
def ownToks (c : Dev nD) (k : Fin 16) : sProp 𝕄 :=
  iprop((tok c (cYs k) 0 ∗ tok c (cYr k) 0 ∗ tok c (cXs k) 0 ∗ tok c (cZs k) 0 ∗ tok c (cXr k) 0 ∗ tok c (cZr k) 0 ∗ tok c (cFs k) 0 ∗ tok c (cDr k) 0)
    ∗ tok c (cIn (slot k)) (k.val / 2) ∗ tok c (cRs (slot k)) (k.val / 2) ∗ tok c (cSt (slot k)) (k.val / 2))

theorem toks_sorted : bigSep talkToks (fun x => (dutyTok ER x.1 x.2.1 x.2.2 : sProp 𝕄))
    = iprop((bigSep Finset.univ fun c : Dev nD => barToks c)
      ∗ bigSep Finset.univ fun k : Fin 16 => bigSep Finset.univ fun c : Dev nD => ownToks c k) := by
  rw [bigSep_map, BI.bigSep_univ_prod, bigSep_univ_comm (fun (k : Fin 16) (c : Dev nD) => ownToks c k), ← bigSep_sep']
  refine bigSep_congr fun c _ => ?_
  rw [BI.bigSep_univ_sum, BI.bigSep_univ_sum, BI.bigSep_univ_prod, BI.bigSep_univ_prod, bigSep_univ_comm, bigSep_univ_comm (fun (a : Fin 3) (k : Fin 16) => _),
    bigSep_fin3]
  unfold ownToks
  rw [bigSep_sep']
  simp only [bigSep_fin8, bigSep_fin3]
  rfl

theorem devP_devP (c : Dev nD) (k : Fin 16) : devP (devP c k) k = c := by
  unfold devP; split
  · exact devX_devX c
  · exact devZ_devZ c
def eqvP (k : Fin 16) : Dev nD ≃ Dev nD := ⟨fun c => devP c k, fun c => devP c k, fun c => devP_devP c k, fun c => devP_devP c k⟩

/-- The rights that device `c` has over its neighbours' barriers. -/
def barPays (c : Dev nD) : sProp 𝕄 :=
  iprop(dutyTok ER (gc (devY c) bar) 0 0 ∗ dutyTok ER (gc (devX c) bar) 0 1 ∗ dutyTok ER (gc (devZ c) bar) 0 2)

theorem bar_around : (bigSep Finset.univ fun c : Dev nD => (barToks c : sProp 𝕄)) ⊢ bigSep Finset.univ fun c : Dev nD => barPays c := by
  unfold barToks barPays
  rw [bigSep_sep', bigSep_sep', bigSep_sep', bigSep_sep',
    bigSep_univ_equiv eqvY (fun c : Dev nD => (dutyTok ER (gc c bar) 0 0 : sProp 𝕄)),
    bigSep_univ_equiv eqvX (fun c : Dev nD => (dutyTok ER (gc c bar) 0 1 : sProp 𝕄)),
    bigSep_univ_equiv eqvZ (fun c : Dev nD => (dutyTok ER (gc c bar) 0 2 : sProp 𝕄))]
  exact .rfl

theorem chunk_around (k : Fin 16) :
    (bigSep Finset.univ fun c : Dev nD => (ownToks c k : sProp 𝕄)) ⊢ bigSep Finset.univ fun c : Dev nD => toks c k := by
  unfold ownToks toks
  simp only [bigSep_sep']
  rw [bigSep_univ_equiv eqvY (fun c : Dev nD => (tok c (cYr k) 0 : sProp 𝕄)),
    bigSep_univ_equiv eqvX (fun c : Dev nD => (tok c (cXr k) 0 : sProp 𝕄)),
    bigSep_univ_equiv eqvZ (fun c : Dev nD => (tok c (cZr k) 0 : sProp 𝕄)),
    bigSep_univ_equiv (eqvP k) (fun c : Dev nD => (tok c (cDr k) 0 : sProp 𝕄))]
  iintro ⟨⟨H1, H2, H3, H4, H5, H6, H7, H8⟩, H9, H10, H11⟩
  isplitl [H1]; · iexact H1
  isplitl [H2]; · iexact H2
  isplitl [H3]; · iexact H3
  isplitl [H5]; · iexact H5
  isplitl [H4]; · iexact H4
  isplitl [H6]; · iexact H6
  isplitl [H7]; · iexact H7
  isplitl [H8]; · iexact H8
  isplitl [H9]; · iexact H9
  isplitl [H10]; · iexact H10
  iexact H11

/-- Every right with the device that pays it. -/
theorem toks_around : bigSep talkToks (fun x => (dutyTok ER x.1 x.2.1 x.2.2 : sProp 𝕄))
    ⊢ bigSep Finset.univ fun c : Dev nD => iprop(barPays c ∗ bigSep Finset.univ fun k : Fin 16 => toks c k) := by
  rw [toks_sorted, bigSep_sep', bigSep_univ_comm (fun (c : Dev nD) (k : Fin 16) => (toks c k : sProp 𝕄))]
  exact BIClass.sep_mono bar_around (bigSep_mono fun k _ => chunk_around k)

/-! ## The units -/

theorem cred_chunks (f : Dev nD → Fin 16 → Dev nD) (hf : ∀ k c, f (f c k) k = c) (x : Fin 16 → Cell) (c : Dev nD) :
    (Pipeline.launchCred (fun d => debt 0 (fun k => gc (f d k) (x k))) c : sProp 𝕄)
      ⊢ bigSep Finset.univ fun k : Fin 16 => unit' c (x k) := by
  unfold debt
  rw [Pipeline.launchCred_sum, show since 0 = Finset.univ from Finset.filter_true_of_mem fun k _ => Nat.zero_le _]
  exact bigSep_mono fun k _ => Pipeline.launchCred_tallyAt (semOf (x k)) (fun d => f d k) (fun d => f d k) (hf k) (hf k) () N c

theorem cred_bar (f : Dev nD → Dev nD) (hf : ∀ c, f (f c) = c) (c : Dev nD) :
    (Pipeline.launchCred (fun d => tallyAt (gc (f d) bar) () 1) c : sProp 𝕄) ⊢ cred (tallyAt (gc c bar) () 1) :=
  Pipeline.launchCred_tallyAt (semOf bar) f f hf hf () 1 c

theorem three (c : Dev nD) : iprop(cred (tallyAt (gc c bar) () 1) ∗ cred (tallyAt (gc c bar) () 1) ∗ cred (tallyAt (gc c bar) () 1))
    ⊢ (cred (tallyAt (gc c bar) () 3) : sProp 𝕄) := by
  have e : tallyAt (gc c bar) () 1 + (tallyAt (gc c bar) () 1 + tallyAt (gc c bar) () 1) = (tallyAt (gc c bar) () 3 : CellTallies nD τ sig Unit) := by
    rw [tallyAt_add, tallyAt_add]
  rw [← e]
  exact (BIClass.sep_mono .rfl (cred_add _ _).2).trans (cred_add _ _).2

/-- The units owed to device `c`. -/
theorem creds (c : Dev nD) : (Pipeline.launchCred O₀ c : sProp 𝕄)
    ⊢ iprop(cred (tallyAt (gc c bar) () 3) ∗ bigSep Finset.univ fun k : Fin 16 => units c k) := by
  have e : (O₀ : Dev nD → CellTallies nD τ sig Unit) = fun d => (((debt 0 (fun k => gc (devY d) (cYr k)) + (debt 0 (fun k => gc (devX d) (cXr k))
      + (debt 0 (fun k => gc (devZ d) (cZr k)) + debt 0 (fun k => gc (devP d k) (cDr k)))))
      + tallyAt (gc (devZ d) bar) () 1) + tallyAt (gc (devX d) bar) () 1) + tallyAt (gc (devY d) bar) () 1 := rfl
  rw [e]
  simp only [Pipeline.launchCred_add]
  unfold units
  simp only [bigSep_sep']
  iintro ⟨⟨⟨⟨H1, H2, H3, H4⟩, Hz⟩, Hx⟩, Hy⟩
  ihave Hz := (cred_bar devZ devZ_devZ c) $$ Hz
  ihave Hx := (cred_bar devX devX_devX c) $$ Hx
  ihave Hy := (cred_bar devY devY_devY c) $$ Hy
  isplitl [Hx Hy Hz]
  · iapply (three c)
    iframe
  isplitl [H1]; · iapply (cred_chunks (fun d _ => devY d) (fun _ => devY_devY) cYr c); iexact H1
  isplitl [H2]; · iapply (cred_chunks (fun d _ => devX d) (fun _ => devX_devX) cXr c); iexact H2
  isplitl [H3]; · iapply (cred_chunks (fun d _ => devZ d) (fun _ => devZ_devZ) cZr c); iexact H3
  iapply (cred_chunks devP (fun k d => devP_devP d k) cDr c); iexact H4

end Cert.KernelIdeal.Talk
-- ==== Proof.LaunchIdeal.lean ====
/-
The kernel's program on the eight devices, from launch to return.

The host reshapes the weights, the region runs, and nothing follows. At launch every device is dealt its
rights, its units and its buffers; at return its arguments are as launched, its result holds every
quarter's finished rows, and every semaphore is back at zero.
-/
module

public import proofs.«01_k».proof.Proof.TokensIdeal

@[expose] public section

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ UU ℕ

variable (m : (ℓ : Loc nD τ sig) → Buf (Elt F) ℓ) (ρ : Dev nD → PrngReg)

/-! ## The buffers -/

abbrev ref (b : Ref sig .tc) : DevRef τ sig := Proc.devRef .tc b
/-- A whole buffer held at `f`. -/
abbrev pt (c : Dev nD) (b : Ref sig .tc) (f : Buf (Elt F) ((c : Thread nD τ).loc b)) : sProp 𝕄 := ((c : Thread nD τ).loc b) ↦{fullShare} f

def bufs : Finset (DevRef τ sig) := (StableHlo.tcRefs τ sig).filter fun b => ¬ b.isScoped
/-- The buffers that the body addresses, and with them the weights as launched. -/
def bodyRefs : Finset (DevRef τ sig) := {ref main_arg0, ref main_arg1, ref main_v2}
def sideRefs : Finset (DevRef τ sig) := {ref main_arg0, ref main_arg1, ref main_arg2, ref main_v2}

theorem unscoped_held (c : Dev nD) (W : Valuation τ sig (Elt F)) :
    (unscopedBufs c (fun b => W b) : sProp 𝕄) = StableHlo.held (c : Thread nD τ) bufs W := by
  unfold unscopedBufs StableHlo.held bufs StableHlo.tcRefs
  rw [Finset.filter_map, BI.bigSep_map]
  rfl

theorem held_bufs (c : Dev nD) (W : Valuation τ sig (Elt F)) : (StableHlo.held (c : Thread nD τ) bufs W : sProp 𝕄)
    = iprop(pt c main_arg0 (W (ref main_arg0)) ∗ pt c main_arg1 (W (ref main_arg1)) ∗ pt c main_arg2 (W (ref main_arg2))
      ∗ pt c main_v1 (W (ref main_v1)) ∗ pt c main_v2 (W (ref main_v2))) := by
  unfold StableHlo.held
  rw [bigSep_eq_bigSepL_of_eq [ref main_arg0, ref main_arg1, ref main_arg2, ref main_v1, ref main_v2] (by decide +kernel) (by decide +kernel)]
  rfl
theorem held_side (c : Dev nD) (W : Valuation τ sig (Elt F)) : (StableHlo.held (c : Thread nD τ) sideRefs W : sProp 𝕄)
    = iprop(pt c main_arg0 (W (ref main_arg0)) ∗ pt c main_arg1 (W (ref main_arg1)) ∗ pt c main_arg2 (W (ref main_arg2)) ∗ pt c main_v2 (W (ref main_v2))) := by
  unfold StableHlo.held
  rw [bigSep_eq_bigSepL_of_eq [ref main_arg0, ref main_arg1, ref main_arg2, ref main_v2] (by decide +kernel) (by decide +kernel)]
  rfl
theorem held_body (c : Dev nD) (W : Valuation τ sig (Elt F)) : (StableHlo.held (c : Thread nD τ) bodyRefs W : sProp 𝕄)
    = iprop(pt c main_arg0 (W (ref main_arg0)) ∗ pt c main_arg1 (W (ref main_arg1)) ∗ pt c main_v2 (W (ref main_v2))) := by
  unfold StableHlo.held
  rw [bigSep_eq_bigSepL_of_eq [ref main_arg0, ref main_arg1, ref main_v2] (by decide +kernel) (by decide +kernel)]
  rfl
theorem held_arr (c : Dev nD) (W : Valuation τ sig (Elt F)) :
    (StableHlo.held (c : Thread nD τ) (Pipeline.arrRefs (τ := τ) spec0) W : sProp 𝕄) = pt c main_v1 (W (ref main_v1)) := by
  unfold StableHlo.held
  rw [bigSep_eq_bigSepL_of_eq [ref main_v1] (by decide +kernel) (by decide +kernel)]
  rfl

/-- The barrier is the one semaphore that is not a region's. -/
theorem unscoped_only : ∀ sm : SemLoc sig, sm.isScoped .tc = false → sm = semOf bar := by decide +kernel
theorem unscoped_sems (c : Dev nD) : (unscopedSems0 c : sProp 𝕄) = semVal (gc c bar) 0 := by
  unfold unscopedSems0
  rw [show (Finset.univ.filter fun sm : SemLoc sig => ¬ sm.isScoped .tc) = {semOf bar} from by decide +kernel, BI.bigSep_singleton]

/-! ## The two segments -/

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c := fun _ => dat m

theorem kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

/-- What rides along the host's operations: the generator, what the region is entered with, and the debts. -/
def R (c : Dev nD) : sProp 𝕄 := iprop((∃ r, prngReg c r) ∗ Tk m c ∗ debts c (O₀ c))

theorem host_sub : ∀ op ∈ (hostOps0 : List (HloOp τ sig (Elt F))), op.bufs ⊆ bufs := fun op h => by
  simp only [List.mem_singleton] at h; subst h
  show ({ref main_arg2, ref main_v1} : Finset (DevRef τ sig)) ⊆ bufs; decide +kernel

def seg0 : Pipeline.HostSeg (Name := ℕ) (U := UU) (pcfgs (F := F)) defs₀ Variants.none L lv :=
  Pipeline.HostSeg.ofOps _ _ _ _ _ bufs hostOps0 host_sub (List.forall_iff_forall_mem.mp hostOps0_fresh) (fun c b => m (c, b)) (R m)

theorem scoped_eq (c : Dev nD) :
    (Pipeline.scopedRest (Ix := Unit) (Name := ℕ) (U := UU) (Lvl := ℕ) (Val := Elt F) spec0 c : sProp 𝕄) ⊣⊢ bufs4 c := by
  rw [scopedRest0_eq]
  exact sep_congr (any_whole c _) (sep_congr (any_whole c _) (sep_congr (any_whole c _) (any_whole c _)))

theorem ins_eq (c : Dev nD) : (ins (dataOf m) c : sProp 𝕄)
    = iprop(pt c main_arg0 (W₁ m c (ref main_arg0)) ∗ pt c main_arg1 (W₁ m c (ref main_arg1))) := by
  unfold ins at'
  rw [W₁_arg0, W₁_arg1]
  exact congrArg₂ (fun X Y => iprop(X ∗ Y)) (owns_whole (c : Thread nD τ) main_arg0 fullShare _) (owns_whole (c : Thread nD τ) main_arg1 fullShare _)

theorem region_in (c : Dev nD) : iprop(Pipeline.scopedRest spec0 c ∗ (∃ r, prngReg c r)
      ∗ StableHlo.held (c.tc : Thread nD τ) bodyRefs (W₁ m c) ∗ Xk m c) ⊢ ((dat m c).Φ 0 : sProp 𝕄) := by
  rw [inv_first m c 0 rfl, held_body]
  unfold rows₀
  rw [ins_eq]
  iintro ⟨Hs, Hp, ⟨H0, H1, H2⟩, HX⟩
  isplitl [HX]; · iexact HX
  isplitr [Hp]
  · isplitl [H0 H1]
    · isplitl [H0]; · iexact H0
      iexact H1
    isplitl [H2]
    · iapply ((any_whole c main_v2).1)
      iexists _
      iexact H2
    iapply ((scoped_eq c).1) $$ Hs
  iexact Hp

theorem region_out (c : Dev nD) : ((dat m c).Φ (Fin.last cfg0.N) : sProp 𝕄) ⊢ iprop(Pipeline.scopedRest spec0 c ∗ (∃ r, prngReg c r)
      ∗ StableHlo.held (c.tc : Thread nD τ) bodyRefs (W₂ m c) ∗ Pipeline.ownSems0 osem c ∗ semVal (gc c bar) 0) := by
  rw [inv_last m c (Fin.last cfg0.N) (by rw [Fin.val_last]; exact Nat.one_ne_zero), held_body, W₂_out, W₂_of_ne m c _ (by decide +kernel), W₂_of_ne m c _ (by decide +kernel), ownSems_eq]
  unfold rows₁
  rw [ins_eq]
  iintro ⟨⟨Hb, Hz, ⟨H0, H1⟩, H2, Hs⟩, Hp⟩
  isplitl [Hs]; · iapply ((scoped_eq c).2) $$ Hs
  isplitl [Hp]; · iexact Hp
  isplitl [H0 H1 H2]
  · isplitl [H0]; · iexact H0
    isplitl [H1]; · iexact H1
    iapply (Entails.of_eq (owns_whole (c : Thread nD τ) main_v2 fullShare _)) $$ H2
  isplitl [Hz]; · iexact Hz
  iexact Hb

/-- Whatever a device owes is owed to a semaphore above the window's. -/
theorem owed_above (c : Dev nD) (g : GSem nD τ sig) (u : Unit) (h : 0 < O₀ c g u) : u ∈ L g ∧ 0 < lv g u := by
  have key : ∃ d x, g = gc d x ∧ 0 < lev x := by
    unfold O₀ owe at h
    simp only [Pi.add_apply, Finsupp.add_apply, Nat.add_pos_iff_pos_or_pos] at h
    have one (d : Dev nD) (h : 0 < (tallyAt (gc d bar) () 1 : CellTallies nD τ sig Unit) g u) : ∃ d x, g = gc d x ∧ 0 < lev x := by
      rw [tallyAt_apply] at h
      by_cases hg : g = gc d bar
      · exact ⟨d, bar, hg, Nat.one_pos⟩
      · rw [if_neg fun hc => hg hc.1] at h; exact absurd h (Nat.lt_irrefl 0)
    rcases h with (((h | h | h | h) | h) | h) | h
    · obtain ⟨k, -, hk⟩ := debt_pos h; exact ⟨_, _, hk, by show 0 < 2; decide⟩
    · obtain ⟨k, -, hk⟩ := debt_pos h; exact ⟨_, _, hk, by show 0 < 3 + k.val; omega⟩
    · obtain ⟨k, -, hk⟩ := debt_pos h; exact ⟨_, _, hk, by show 0 < 3 + k.val; omega⟩
    · obtain ⟨k, -, hk⟩ := debt_pos h; exact ⟨_, _, hk, by show 0 < 100; decide⟩
    all_goals exact one _ h
  obtain ⟨d, x, rfl, hx⟩ := key
  exact ⟨by rw [L_tc]; exact Finset.mem_singleton_self _, by cases u; rw [lv_gc]; exact hx⟩

theorem owed_cut (c : Dev nD) (t : Fin (cfg0.N + 1)) (g : GSem nD τ sig) (u : Unit) (h : 0 < (dat m c).owed t g u) : u ∈ L g ∧ 0 < lv g u := by
  by_cases ht : t.val = 0
  · rw [owed_first m c t ht] at h; exact owed_above c g u h
  · rw [owed_last m c t ht] at h; exact absurd h (Nat.lt_irrefl 0)

theorem window_level : ∀ (w : Fin 1) (s : Fin (spec0 w).nbuf), cellAt (.dma ((spec0 w).sem s)) = none := by decide +kernel

theorem share_full (c : Dev nD) (w : Fin cfg0.W) : (dat m c).share w = fullShare := by
  obtain rfl : w = 0 := Subsingleton.elim _ _
  rfl
theorem arr_first (c : Dev nD) (w : Fin cfg0.W) : (dat m c).arrAt w 0 = W₁ m c (ref (Pipeline.arrRef spec0 w)) := rfl
theorem arr_last (c : Dev nD) (w : Fin cfg0.W) : (dat m c).arrAt w cfg0.N = W₂ m c (ref (Pipeline.arrRef spec0 w)) := by
  obtain rfl : w = 0 := Subsingleton.elim _ _
  rw [(dat m c).arrAt_in 0 rfl, W₂_of_ne m c _ (by decide +kernel)]
  rfl

set_option backward.isDefEq.respectTransparency.types false in
def reg0 : Pipeline.RegionSeg (pcfgs (F := F)) adm (pdats m) () defs₀ Variants.none L lv 0 :=
  Pipeline.RegionSeg.ofTalk (pcfgs (F := F)) adm (pdats m) () defs₀ Variants.none L lv 0 osem osem_facts
    bodyRefs sideRefs (by decide +kernel) kit rfl (fun c => (point m c).loose)
    (fun _ => 0) O₀ (fun c => (owed_first m c 0 rfl).trans (zero_add _).symm)
    (fun c => owed_last m c (Fin.last cfg0.N) (by rw [Fin.val_last]; exact Nat.one_ne_zero)) (fun _ => rfl) (share_full m)
    (W₁ m) (W₂ m) (fun c b hb => W₂_of_ne m c b (by rintro rfl; revert hb; decide +kernel))
    (Tk m) (fun c => semVal (gc c bar) 0) (Xk m) (fun c => semVal (gc c bar) 0)
    (region_open m) (region_in m) (region_out m)
    (fun c => by iintro H; imodintro; iexact H)
    (fun _ => 0)
    ⟨fun c w s => by rw [L_tc]; exact Finset.mem_singleton_self _,
      fun c w s => le_of_eq (show (cellAt (.dma ((spec0 w).sem s))).elim 0 lev = 0 from by rw [window_level]; rfl),
      fun c t g i h => owed_cut m c t g i h⟩
    (fun _ => iprop(emp)) (arr_first m) (arr_last m)

theorem reg_pre (c : Dev nD) : iprop(StableHlo.held (c : Thread nD τ) bufs (W₁ m c) ∗ R m c) ⊢ (reg0 m).pre c := by
  show _ ⊢ iprop(StableHlo.held (c.tc : Thread nD τ) (Pipeline.arrRefs (τ := τ) spec0) (W₁ m c) ∗ (∃ r, prngReg c r)
    ∗ (StableHlo.held (c.tc : Thread nD τ) sideRefs (W₁ m c) ∗ emp) ∗ Tk m c ∗ ∃ Wd, owes (c : Thread nD τ) (0 + O₀ c) Wd)
  rw [held_arr, held_bufs, held_side, zero_add]
  unfold R debts
  iintro ⟨⟨H0, H1, H2, H3, H4⟩, Hp, HT, HO⟩
  isplitl [H3]; · iexact H3
  isplitl [Hp]; · iexact Hp
  isplitl [H0 H1 H2 H4]
  · isplitl
    · isplitl [H0]; · iexact H0
      isplitl [H1]; · iexact H1
      isplitl [H2]; · iexact H2
      iexact H4
    iempintro
  isplitl [HT]; · iexact HT
  iexact HO

/-- What a device holds at the end: its buffers, and its barrier at zero. -/
abbrev Tₙ (c : Dev nD) : sProp 𝕄 := iprop(StableHlo.held (c : Thread nD τ) bufs (W₂ m c) ∗ semVal (gc c bar) 0)

theorem reg_post (c : Dev nD) : (reg0 m).post c ⊢ iprop(Tₙ m c ∗ ∃ W, owes (c : Thread nD τ) (0 : CellTallies nD τ sig Unit) W) := by
  show iprop(StableHlo.held (c.tc : Thread nD τ) (Pipeline.arrRefs (τ := τ) spec0) (W₂ m c) ∗ (∃ r, prngReg c r)
    ∗ (StableHlo.held (c.tc : Thread nD τ) sideRefs (W₂ m c) ∗ emp) ∗ semVal (gc c bar) 0 ∗ ∃ Wd, owes (c : Thread nD τ) (0 : CellTallies nD τ sig Unit) Wd)
    ⊢ iprop((StableHlo.held (c : Thread nD τ) bufs (W₂ m c) ∗ semVal (gc c bar) 0) ∗ ∃ W, owes (c : Thread nD τ) (0 : CellTallies nD τ sig Unit) W)
  rw [held_arr, held_bufs, held_side]
  iintro ⟨H3, -, ⟨⟨H0, H1, H2, H4⟩, -⟩, Hb, HO⟩
  isplitr [HO]
  · isplitr [Hb]
    · isplitl [H0]; · iexact H0
      isplitl [H1]; · iexact H1
      isplitl [H2]; · iexact H2
      isplitl [H3]; · iexact H3
      iexact H4
    iexact Hb
  iexact HO

def segs : List (Pipeline.Seg (pcfgs (F := F)) adm (pdats m) () defs₀ Variants.none L lv) := [.host (seg0 m), .region (reg0 m)]

theorem main_eq (c : Dev nD) : main (F := F) c = Pipeline.Seg.run (segs m) :=
  main_segs adm (pdats m) () Variants.none L lv (seg0 m) (reg0 m) rfl c

/-! ## The launch -/

/-- The launch's element: the pipeline's part, and the protocol's. -/
def u₀ : UU :=
  (initOf (Pipeline.cells (Pipeline.pin (pcfgs (F := F)) adm) cellOf_inj) (Pipeline.launchToks (Pipeline.pin (pcfgs (F := F)) adm) cellOf_inj),
    launchOf barCells ownCells talkToks)

/-- The protocol's part, kept by device 0 until it is dealt. -/
def G (c : Dev nD) : sProp 𝕄 := if c = 0 then BI.own (ER (launchOf barCells ownCells talkToks)) else iprop(emp)
theorem G_all : bigSep Finset.univ (G (F := F)) = BI.own (ER (launchOf barCells ownCells talkToks)) := by
  rw [bigSep_univ_at _ 0, bigSep_congr (s := Finset.univ.erase 0) (Ψ := fun _ => (BI.emp : sProp 𝕄))
    fun c hc => by unfold G; rw [if_neg (Finset.ne_of_mem_erase hc)]; rfl, BI.bigSep_emp_const]
  unfold G; rw [if_pos rfl]
  exact BI.equiv_iff.mp sep_emp

/-- What every device may use. -/
def known (κ : GSem nD τ sig → ℕ) : sProp 𝕄 := iprop(invs (dataOf m) κ ∗ bigSep Finset.univ fun c : Dev nD => got c bar 0)
instance known_persistent (κ : GSem nD τ sig → ℕ) : BI.Persistent (known m κ) := by unfold known; infer_instance

/-- What is dealt to device `c` of the protocol's part, -/
def share (c : Dev nD) : sProp 𝕄 :=
  iprop(pos c bar 0 ∗ (bigSep Finset.univ fun x : Own => openTok ER (gc c (.inr x))) ∗ barPays c ∗ bigSep Finset.univ fun k : Fin 16 => toks c k)
/-- and what it has besides. -/
def besides (c : Dev nD) : sProp 𝕄 :=
  iprop(StableHlo.held (c : Thread nD τ) bufs (fun b => m (c, b)) ∗ (cred (tallyAt (gc c bar) () 3) ∗ bigSep Finset.univ fun k : Fin 16 => units c k)
    ∗ owes (c : Thread nD τ) (O₀ c) ∅ ∗ ∃ r, prngReg c r)
abbrev T₀ (c : Dev nD) : sProp 𝕄 := iprop(StableHlo.held (c : Thread nD τ) bufs (fun b => m (c, b)) ∗ R m c)

theorem got_at (c : Dev nD) : (bigSep Finset.univ fun c : Dev nD => (got c bar 0 : sProp 𝕄)) ⊢ got c bar 0 := bigSep_elim (Finset.mem_univ c)

theorem begin_with (κ : GSem nD τ sig → ℕ) (c : Dev nD) : iprop(known m κ ∗ share c ∗ besides m c) ⊢ T₀ m c := by
  unfold T₀ known share besides barPays R Tk dealt barHeld debts
  iintro ⟨⟨#HI, #HR⟩, ⟨Hb, Ho, ⟨Hy, Hx, Hz⟩, Ht⟩, Hh, ⟨H3, Hu⟩, HO, Hp⟩
  ihave Ht := pair_up $$ [Ht Hu]
  · isplitl [Ht]; · iexact Ht
    iexact Hu
  isplitl [Hh]; · iexact Hh
  isplitl [Hp]; · iexact Hp
  isplitr [HO]
  · isplitr; · iexists κ; iexact HI
    isplitr [Ho]
    · isplitr [Ht]
      · isplitl [Hb]; · iexact Hb
        isplitl [H3]; · iexact H3
        isplitl [Hy]
        · isplitl [Hy]; · iexact Hy
          iapply (got_at (devY c)); iexact HR
        isplitl [Hx]
        · isplitl [Hx]; · iexact Hx
          iapply (got_at (devX c)); iexact HR
        isplitl [Hz]; · iexact Hz
        iapply (got_at (devZ c)); iexact HR
      iexact Ht
    iexact Ho
  iexists ∅
  iexact HO

theorem held_launch (c : Dev nD) : iprop(unscopedBufs c (fun b => m ((c : Thread nD τ).loc b)) ∗ unscopedSems0 c
      ∗ owes (c : Thread nD τ) (O₀ c) ∅ ∗ Pipeline.launchCred O₀ c ∗ prngReg c (ρ c) ∗ G c)
    ⊢ (iprop(besides m c ∗ semVal (gc c bar) 0 ∗ G c) : sProp 𝕄) := by
  rw [show unscopedBufs c (fun b => m ((c : Thread nD τ).loc b)) = StableHlo.held (c : Thread nD τ) bufs (fun b => m (c, b)) from
    unscoped_held c (fun b => m (c, b)), unscoped_sems]
  unfold besides
  iintro ⟨Hh, Hs, HO, Hc, Hp, HG⟩
  ihave Hc := (creds (F := F) c) $$ Hc
  isplitr [Hs HG]
  · isplitl [Hh]; · iexact Hh
    isplitl [Hc]; · iexact Hc
    isplitl [HO]; · iexact HO
    iexists (ρ c); iexact Hp
  isplitl [Hs]; · iexact Hs
  iexact HG

theorem bars (Φ : GSem nD τ sig → sProp 𝕄) : bigSep barCells Φ = bigSep Finset.univ fun c : Dev nD => Φ (gc c bar) := bigSep_map barEmb
theorem owns_each (Φ : GSem nD τ sig → sProp 𝕄) :
    bigSep ownCells Φ = bigSep Finset.univ fun c : Dev nD => bigSep Finset.univ fun x : Own => Φ (gc c (.inr x)) := by
  rw [bigSep_map, BI.bigSep_univ_prod]; rfl

theorem all_launch : (bigSep Finset.univ fun c : Dev nD => iprop(unscopedBufs c (fun b => m ((c : Thread nD τ).loc b)) ∗ unscopedSems0 c
      ∗ owes (c : Thread nD τ) (O₀ c) ∅ ∗ Pipeline.launchCred O₀ c ∗ prngReg c (ρ c) ∗ G c))
    ⊢ (bigSep Finset.univ fun c : Dev nD => iprop(besides m c ∗ semVal (gc c bar) 0 ∗ G c) : sProp 𝕄) :=
  bigSep_mono fun c _ => held_launch m ρ c

theorem init : iprop((bigSep Finset.univ fun c : Dev nD => iprop(unscopedBufs c (fun b => m ((c : Thread nD τ).loc b)) ∗ unscopedSems0 c
      ∗ owes (c : Thread nD τ) (O₀ c) ∅ ∗ Pipeline.launchCred O₀ c ∗ prngReg c (ρ c) ∗ G c)) ∗ levAts L lv)
    ⊢ (|={Set.univ}=> bigSep Finset.univ (T₀ m) : sProp 𝕄) := by
  iintro ⟨H, -⟩
  ihave H := (all_launch m ρ) $$ H
  ihave H := unpair $$ H
  icases H with ⟨Hb, H⟩
  ihave H := unpair $$ H
  icases H with ⟨Hv, HG⟩
  imod (Rounds.fund_launch ER (Rd (dataOf m)) cells_disjoint (fun g _ h => h) talkToks) $$ [Hv HG] with ⟨%κ, -, #HI, #Hr, Hat, Ho, Ht⟩
  · isplitl [Hv]
    · iapply (Entails.of_eq (bars (F := F) fun g => semVal g 0).symm) $$ Hv
    iapply (Entails.of_eq (G_all (F := F))) $$ HG
  ihave Ht := toks_around $$ Ht
  ihave Hat := (Entails.of_eq (bars (F := F) fun g => atPos ER g 0 ∅ 0)) $$ Hat
  ihave Ho := (Entails.of_eq (owns_each (F := F) fun g => openTok ER g)) $$ Ho
  ihave H := pair_up $$ [Ho Ht]
  · isplitl [Ho]; · iexact Ho
    iexact Ht
  ihave H := pair_up $$ [Hat H]
  · isplitl [Hat]; · iexact Hat
    iexact H
  ihave H := pair_up $$ [H Hb]
  · isplitl [H]; · iexact H
    iexact Hb
  imodintro
  iapply (bigSep_with_persistent (R := known m κ) (Φ := fun c => iprop(share c ∗ besides m c)) fun c _ => begin_with m κ c)
  isplitr
  · unfold known
    isplitr
    · iapply (invs_intro (dataOf m) κ); iexact HI
    iapply (Entails.of_eq (bars (F := F) fun g => reached ER g 0)); iexact Hr
  iexact H

/-! ## The run -/

theorem W₂_arg0 (c : Dev nD) : W₂ m c (ref main_arg0) = m ((c : Thread nD τ).loc main_arg0) :=
  (W₂_of_ne m c _ (by decide +kernel)).trans (V_main_arg0 m c)
theorem W₂_arg1 (c : Dev nD) : W₂ m c (ref main_arg1) = m ((c : Thread nD τ).loc main_arg1) :=
  (W₂_of_ne m c _ (by decide +kernel)).trans (V_main_arg1 m c)
theorem W₂_arg2 (c : Dev nD) : W₂ m c (ref main_arg2) = m ((c : Thread nD τ).loc main_arg2) :=
  (W₂_of_ne m c _ (by decide +kernel)).trans (V_main_arg2 m c)

/-- What a device's memory shows at the end. -/
def Shown (c : Dev nD) (s : MemSt nD τ sig (Elt F)) : Prop :=
  s.mem ((c : Thread nD τ).loc main_v2) = outVal (dataOf m) c
    ∧ s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)

theorem read_end (c : Dev nD) (s : Phys nD τ sig (Elt F)) :
    iprop(Tₙ m c ∗ SI s) ⊢ (|={Set.univ}=> iprop(⌜Shown m c s.mem ∧ s.mem.sem (gc c bar) = 0⌝ ∗ SI s) : sProp 𝕄) := by
  dsimp only [Tₙ]
  rw [held_bufs, W₂_out, W₂_arg0, W₂_arg1, W₂_arg2]
  iintro ⟨⟨⟨H0, H1, H2, -, H4⟩, Hb⟩, HSI⟩
  icombine HSI H0 gives %h0
  icombine HSI H1 gives %h1
  icombine HSI H2 gives %h2
  icombine HSI H4 gives %h4
  icombine HSI Hb gives %hb
  imodintro
  isplitr
  · ipureintro
    exact ⟨⟨Buf.eq_of_forall_mem_univ h4, Buf.eq_of_forall_mem_univ h0, Buf.eq_of_forall_mem_univ h1, Buf.eq_of_forall_mem_univ h2⟩, by simpa using hb⟩
  iexact HSI

set_option backward.isDefEq.respectTransparency.types false in
/-- From any memory with every semaphore at zero the program returns on every device; then each device's memory is as
    `Shown` says, and every semaphore is at zero. -/
theorem run_main : θ_run defs (onTc (τ := τ) (main (F := F))) ⟨m, fun _ => 0, ρ⟩
    (fun r => (∀ c : Dev nD, Shown m c r.2) ∧ r.2.sem = fun _ => 0) :=
  Pipeline.θ_run_regions_kit_sems (pcfgs (F := F)) adm (pdats m) () cellOf_inj EP defs₀ Variants.none L lv m ρ main (segs m)
    (fun c Q => by rw [main_eq m c])
    (by simp only [segs, Pipeline.Seg.pipes_host, Pipeline.Seg.pipes_region, Pipeline.Seg.pipes_nil]; decide)
    (O₀ := O₀) (hL := L_of_ne) (G := G) (u₀ := u₀ (F := F))
    (hu₀ := by
      unfold u₀
      iintro Hu
      ihave H := (ownU_pair _ _) $$ Hu
      icases H with ⟨HP, HX⟩
      imodintro
      isplitl [HP]; · iexact HP
      rw [G_all]; iexact HX)
    (T₀ := T₀ m) (Tₙ := Tₙ m)
    (hch := ⟨fun c => .rfl, fun c => reg_pre m c, fun c => reg_post m c⟩)
    (hinit := init m ρ)
    (QY := fun c s => Shown m c s ∧ s.sem (gc c bar) = 0)
    (hfin := read_end m)
    (hQ := fun s h hs => ⟨fun c => (h c).1, sem_eq_zero hs fun c sm hsm => by
      obtain rfl := unscoped_only sm hsm
      exact (h c).2⟩)

end Cert.KernelIdeal.Talk
-- ==== Proof.Norm.lean ====
/-
A row divided by its root mean square and scaled, at the exact reals, and the reference's result as such rows.

Both programs compute a row of the result from a row of the sum and from the weights: this module states that
row as plain arithmetic, `rmsNorm`, and reads the reference's result at an index as one.
-/
module

public import proofs.«01_k».proof.Proof.Gen.ReferenceIdeal.Run
public import Idealize.ShloMosaic.Lib.IdealHost
public import Idealize.ShloMosaic.Lib.ValueLayout
public import Idealize.ShloMosaic.Lib.ValueLayoutCasts
public import Idealize.ShloMosaic.Lib.KernelVsHost
public import Idealize.ShloMosaic.PureOps.Ideal.Laws

@[expose] public section

noncomputable section

namespace Cert.Rows

open Idealize.ShloMosaic Idealize.ShloMosaic.ValueIdx
open scoped BigOperators

/-- Entry `j` of the row `y` divided by its root mean square and scaled by the weights `g`: the mean is the sum of
the squares divided by 4096, and a small constant is added to it. -/
def rmsNorm (y g : Fin 4096 → EReal) (j : Fin 4096) : EReal :=
  Ideal.div (y j) (Ideal.sqrt (Ideal.div (∑ k, y k * y k) (Ideal.ofBits .f32 0x45800000#32) + Ideal.ofBits .f32 0x358637BD#32)) * g j

open Cert.ReferenceIdeal Cert.ReferenceIdeal.Gen

/-- The reference's sum: the two partial blocks added up, and the residual added. -/
def refSum (p : FVec Ideal S2x4096x4096 .f32) (x : FVec Ideal S4096x4096 .f32) : FVec Ideal S4096x4096 .f32 :=
  addf (Host.reduceAdd p (constant S_ .f32 0x00000000#32) reducesTo_S2x4096x4096_S4096x4096_d0 h_S_) x

/-- The root mean square of each of its rows, as a column. -/
def refRms (y : FVec Ideal S4096x4096 .f32) : FVec Ideal S4096x1 .f32 :=
  Host.sqrt (addf (Host.divf (broadcastInDim S4096x1 ![0] bcast_S4096_S4096x1_0
      (Host.reduceAdd (mulf y y) (constant S_ .f32 0x00000000#32) reducesTo_S4096x4096_S4096_d1 h_S_))
    (broadcastInDim S4096x1 ![] bcast_S_S4096x1 (constant S_ .f32 0x45800000#32)))
    (broadcastInDim S4096x1 ![] bcast_S_S4096x1 (constant S_ .f32 0x358637BD#32)))

/-- The reference's result. -/
def refOut (p : FVec Ideal S2x4096x4096 .f32) (x : FVec Ideal S4096x4096 .f32) (g : FVec Ideal S4096 .f32) : FVec Ideal S4096x4096 .f32 :=
  mulf (Host.divf (refSum p x) (broadcastInDim S4096x4096 ![0, 1] bcast_S4096x1_S4096x4096_0_1 (refRms (refSum p x))))
    (broadcastInDim S4096x4096 ![0, 1] bcast_S1x4096_S4096x4096_0_1 (broadcastInDim S1x4096 ![1] bcast_S4096_S1x4096_1 g))

theorem zero_bits : Ideal.ofBits .f32 0x00000000#32 = 0 := by simp [Ideal.ofBits, Ideal.ieee]

theorem red0 : (S2x4096x4096 : Shape).Reduces [0] S4096x4096 := by decide
theorem red1 : (S4096x4096 : Shape).Reduces [1] S4096 := by decide

theorem lift0 (r j : Fin 4096) (k : Fin 2) : red0.lift (ix2 r j) k = ix3 k r j := by
  funext a
  match a with
  | ⟨0, _⟩ => rfl
  | ⟨1, _⟩ => rfl
  | ⟨2, _⟩ => rfl
theorem lift1 (r k : Fin 4096) : red1.lift (ix1 r) k = ix2 r k := by
  funext a
  match a with
  | ⟨0, _⟩ => rfl
  | ⟨1, _⟩ => rfl

theorem refSum_apply (p : FVec Ideal S2x4096x4096 .f32) (x : FVec Ideal S4096x4096 .f32) (r j : Fin 4096) :
    refSum p x (ix2 r j) = (p (ix3 0 r j) + p (ix3 1 r j)) + x (ix2 r j) := by
  unfold refSum
  rw [addf_apply, hostReduceAdd_apply, Ideal.hostReduceAdd_single _ red0, constant_apply, zero_bits, zero_add]
  congr 1
  refine (Fin.sum_univ_two _).trans ?_
  rw [lift0, lift0]

theorem refRms_apply (y : FVec Ideal S4096x4096 .f32) (r : Fin 4096) :
    refRms y (ix2 r (0 : Fin 1)) = Ideal.sqrt (Ideal.div (∑ k, y (ix2 r k) * y (ix2 r k)) (Ideal.ofBits .f32 0x45800000#32) + Ideal.ofBits .f32 0x358637BD#32) := by
  have e : broadcastInDim S4096x1 ![0] bcast_S4096_S4096x1_0
      (Host.reduceAdd (mulf y y) (constant S_ .f32 0x00000000#32) reducesTo_S4096x4096_S4096_d1 h_S_) (ix2 r (0 : Fin 1))
      = ∑ k, y (ix2 r k) * y (ix2 r k) := by
    rw [broadcastInDim_apply ![0] bcast_S4096_S4096x1_0 _ (ix2 r (0 : Fin 1)) (ix1 r) (fun a => by
      match a with
      | ⟨0, _⟩ => rfl)]
    rw [hostReduceAdd_apply, Ideal.hostReduceAdd_single _ red1, constant_apply, zero_bits, zero_add]
    exact Finset.sum_congr rfl fun k _ => (congrArg (mulf y y) (lift1 r k)).trans rfl
  exact congrArg (fun s => Ideal.sqrt (Ideal.div s (Ideal.ofBits .f32 0x45800000#32) + Ideal.ofBits .f32 0x358637BD#32)) e

theorem refOut_apply (p : FVec Ideal S2x4096x4096 .f32) (x : FVec Ideal S4096x4096 .f32) (g : FVec Ideal S4096 .f32) (r j : Fin 4096) :
    refOut p x g (ix2 r j) = rmsNorm (fun k => (p (ix3 0 r k) + p (ix3 1 r k)) + x (ix2 r k)) (fun k => g (ix1 k)) j := by
  unfold refOut rmsNorm
  rw [mulf_apply, hostDivf_apply, broadcastInDim_oneRow_apply]
  rw [broadcastInDim_apply ![0, 1] bcast_S4096x1_S4096x4096_0_1 _ (ix2 r j) (ix2 r (0 : Fin 1)) (fun a => by
    match a with
    | ⟨0, _⟩ => rfl
    | ⟨1, _⟩ => rfl)]
  rw [broadcastInDim_apply ![1] bcast_S4096_S1x4096_1 _ (ix2 (0 : Fin 1) j) (ix1 j) (fun a => by
    match a with
    | ⟨0, _⟩ => rfl)]
  rw [refRms_apply, refSum_apply]
  simp only [refSum_apply]

end Cert.Rows

end
-- ==== Proof.ValueIdeal.lean ====
/-
The kernel's result is the reference's.

Chunk by chunk: a row of a device's chunk is the row `rmsNorm` of its own partial row, its neighbour's across y and
the residual's row, and the two partial rows are the reference's two blocks in one order or the other. Addition
of the extended reals does not mind the order.
-/
module

public import proofs.«01_k».proof.Proof.LaunchIdeal
public import proofs.«01_k».proof.Proof.Norm
public import Idealize.ShloMosaic.Lib.Layout

@[expose] public section

noncomputable section

namespace Cert.KernelIdeal.Talk

open Cert.KernelIdeal Cert.KernelIdeal.Gen Cert.Rows
open Idealize.ShloMosaic Idealize.ShloMosaic.TcCoe Idealize.ShloMosaic.ValueIdx
open scoped BigOperators

/-! ## A chunk's arithmetic at an index -/

theorem red64 : (S64x4096 : Shape).Reduces [1] S64 := by decide
theorem lift64 (i : Fin 64) (k : Fin 4096) : red64.lift (ix1 i) k = ix2 i k := by
  funext a
  match a with
  | ⟨0, _⟩ => rfl
  | ⟨1, _⟩ => rfl

/-- The rows added up. -/
def sumOf (own peer : FVec Ideal S1x64x4096 .f32) (res : FVec Ideal S64x4096 .f32) : FVec Ideal S64x4096 .f32 :=
  addf (addf (flat (F := Ideal) own) (flat (F := Ideal) peer)) res
/-- The root mean square of each, as a column. -/
def rmsOf (y : FVec Ideal S64x4096 .f32) : FVec Ideal S64x1 .f32 :=
  sqrt (addf (divf (shapeCast S64x1 (multiReduction .add [1] S64 (mulf y y) 0x00000000#32 reduces_S64x4096_S64 (.inl rfl) rfl) shapeCasts_S64_S64x1)
    (broadcast S64x1 (Scalar.ofBits .f32 0x45800000#32))) (broadcast S64x1 (Scalar.ofBits .f32 0x358637BD#32)))

theorem flat_rowsOf (own peer : FVec Ideal S1x64x4096 .f32) (res : FVec Ideal S64x4096 .f32) (g : FVec Ideal S1x4096 .f32) :
    flat (F := Ideal) (rowsOf own peer (unflat (F := Ideal) res) g) = mulf (divf (sumOf own peer res) (broadcastTo S64x4096 (rmsOf (sumOf own peer res)) broadcasts_S64x1_S64x4096))
      (broadcastTo S64x4096 (shapeCast S1x4096 g shapeCasts_S1x4096_S1x4096) broadcasts_S1x4096_S64x4096) := by
  have e : flat (F := Ideal) (unflat (F := Ideal) res) = res := flat_unflat (F := Ideal) res
  have h : rowsOf own peer (unflat (F := Ideal) res) g = unflat (F := Ideal) (mulf (divf (sumOf own peer (flat (F := Ideal) (unflat (F := Ideal) res))) (broadcastTo S64x4096 (rmsOf (sumOf own peer (flat (F := Ideal) (unflat (F := Ideal) res)))) broadcasts_S64x1_S64x4096))
      (broadcastTo S64x4096 (shapeCast S1x4096 g shapeCasts_S1x4096_S1x4096) broadcasts_S1x4096_S64x4096)) := rfl
  rw [h, flat_unflat, e]

theorem flat_apply (X : FVec Ideal S1x64x4096 .f32) (i : Fin 64) (j : Fin 4096) : flat (F := Ideal) X (ix2 i j) = X (ix3 0 i j) :=
  shapeCast_1ab_ab_apply X shapeCasts_S1x64x4096_S64x4096 i j

theorem sumOf_apply (own peer : FVec Ideal S1x64x4096 .f32) (res : FVec Ideal S64x4096 .f32) (i : Fin 64) (j : Fin 4096) :
    sumOf own peer res (ix2 i j) = (own (ix3 0 i j) + peer (ix3 0 i j)) + res (ix2 i j) := by
  unfold sumOf
  rw [addf_apply, addf_apply, flat_apply, flat_apply]

theorem rmsOf_apply (y : FVec Ideal S64x4096 .f32) (i : Fin 64) :
    rmsOf y (ix2 i (0 : Fin 1)) = Ideal.sqrt (Ideal.div (∑ k, y (ix2 i k) * y (ix2 i k)) (Ideal.ofBits .f32 0x45800000#32) + Ideal.ofBits .f32 0x358637BD#32) := by
  have e : shapeCast S64x1 (multiReduction .add [1] S64 (mulf y y) 0x00000000#32 reduces_S64x4096_S64 (.inl rfl) rfl) shapeCasts_S64_S64x1 (ix2 i (0 : Fin 1))
      = ∑ k, y (ix2 i k) * y (ix2 i k) :=
    (shapeCast_a_a1_apply _ shapeCasts_S64_S64x1 i 0).trans
      ((Ideal.multiReduction_add_single (mulf y y) 0x00000000#32 red64 (.inl rfl) rfl (ix1 i)).trans
        (Finset.sum_congr rfl fun k _ => (congrArg (mulf y y) (lift64 i k)).trans rfl))
  exact congrArg (fun s => Ideal.sqrt (Ideal.div s (Ideal.ofBits .f32 0x45800000#32) + Ideal.ofBits .f32 0x358637BD#32)) e

/-- A chunk's row, as plain arithmetic. -/
theorem rowsOf_apply (own peer : FVec Ideal S1x64x4096 .f32) (res : FVec Ideal S64x4096 .f32) (g : FVec Ideal S1x4096 .f32) (i : Fin 64) (j : Fin 4096) :
    flat (F := Ideal) (rowsOf own peer (unflat (F := Ideal) res) g) (ix2 i j)
      = rmsNorm (fun k => (own (ix3 0 i k) + peer (ix3 0 i k)) + res (ix2 i k)) (fun k => g (ix2 (0 : Fin 1) k)) j := by
  rw [flat_rowsOf, mulf_apply, divf_apply, sumOf_apply]
  unfold rmsNorm
  rw [broadcastTo_apply _ broadcasts_S64x1_S64x4096 (ix2 i j) (ix2 i (0 : Fin 1)) (fun a => by
    match a with
    | ⟨0, _⟩ => rfl
    | ⟨1, _⟩ => rfl)]
  rw [rmsOf_apply, shapeCast_self]
  have eg : broadcastTo S64x4096 g broadcasts_S1x4096_S64x4096 (ix2 i j) = g (ix2 (0 : Fin 1) j) :=
    broadcastTo_1b_ab_apply g broadcasts_S1x4096_S64x4096 i j
  rw [eg]
  simp only [sumOf_apply]

/-! ## What a chunk reads -/

/-- Where row `i` of chunk `k` of device `d`'s quarter is. -/
def rowAt (d : Dev nD) (k : Fin 16) (i : Fin 64) : Fin 4096 :=
  ⟨1024 * quarter d + 64 * k.val + i.val, by have := k.isLt; have := i.isLt; have := d.isLt; have : nD = 8 := rfl; unfold quarter; omega⟩

theorem emb2 (d : Dev nD) (k : Fin 16) (i : Fin 64) (j : Fin 4096) :
    (Rect.unit (s := S4096x4096) (k0_off2 d (BitVec.ofNat 32 (64 * k.val))) S64x4096.size (k0_off2_inb d k)).emb (ix2 i j) = ix2 (rowAt d k i) j := by
  funext a
  apply Fin.ext
  show k0_off2 d (BitVec.ofNat 32 (64 * k.val)) a + 1 * (ix2 i j a).val = _
  rw [row2]
  match a with
  | ⟨0, _⟩ => show 1024 * quarter d + 64 * k.val + 1 * i.val = 1024 * quarter d + 64 * k.val + i.val; omega
  | ⟨1, _⟩ => show 0 + 1 * j.val = j.val; omega

theorem emb3 (d : Dev nD) (k : Fin 16) (i : Fin 64) (j : Fin 4096) :
    (Rect.unit (s := S1x4096x4096) (k0_off1 d (BitVec.ofNat 32 (64 * k.val))) S1x64x4096.size (k0_off1_inb d k)).emb (ix3 0 i j) = ix3 0 (rowAt d k i) j := by
  funext a
  apply Fin.ext
  show k0_off1 d (BitVec.ofNat 32 (64 * k.val)) a + 1 * (ix3 (0 : Fin 1) i j a).val = _
  rw [row3]
  match a with
  | ⟨0, _⟩ => rfl
  | ⟨1, _⟩ => show 1024 * quarter d + 64 * k.val + 1 * i.val = 1024 * quarter d + 64 * k.val + i.val; omega
  | ⟨2, _⟩ => show 0 + 1 * j.val = j.val; omega

/-- The neighbour across y has the same quarter, -/
theorem quarter_devY (d : Dev nD) : quarter (devY d) = quarter d := by revert d; decide +kernel
theorem rowAt_devY (d : Dev nD) (k : Fin 16) (i : Fin 64) : rowAt (devY d) k i = rowAt d k i :=
  Fin.ext (by unfold rowAt; simp only [quarter_devY])

/-- and the block that a device holds of the partial sums: its coordinate along y. -/
def side (d : Dev nD) : Fin 2 := ⟨d.val / 2 % 2, Nat.mod_lt _ (by decide)⟩
theorem sides (d : Dev nD) : (side d = 0 ∧ side (devY d) = 1) ∨ (side d = 1 ∧ side (devY d) = 0) := by revert d; decide +kernel

theorem V_main_v1 {F : FTy → Type} [FloatOps F] (m : (ℓ : Loc nD τ sig) → Buf (Elt F) ℓ) (c : Dev nD) :
    V m c main_v1 = shapeCast S1x4096 (m ((c : Thread nD τ).loc main_arg2)) shapeCasts_S4096_S1x4096 := by
  unfold V hostOps0
  after_results
  rfl

/-- The weights reach the kernel as one row. -/
theorem gamma_apply (m : (ℓ : Loc nD τ sig) → Buf (Elt Ideal) ℓ) (c : Dev nD) (j : Fin 4096) :
    (dataOf m).gamma c (ix2 (0 : Fin 1) j) = m ((c : Thread nD τ).loc main_arg2) (ix1 j) := by
  have e : (dataOf m).gamma c = shapeCast S1x4096 (m ((c : Thread nD τ).loc main_arg2)) shapeCasts_S4096_S1x4096 := by
    unfold dataOf
    show iblk m c 0 t0_0 = _
    unfold iblk
    refine Eq.trans ?_ (V_main_v1 m c)
    funext y
    show V m c main_v1 _ = V m c main_v1 y
    refine congrArg (V m c main_v1) (funext fun a => Fin.ext ?_)
    show 0 * S1x4096.size a + 1 * (y a).val = (y a).val
    omega
  rw [e]
  exact shapeCast_a_1a_apply _ shapeCasts_S4096_S1x4096 0 j

/-! ## The result -/

theorem block_apply (v : (⟨3, ![2, 4096, 4096]⟩ : Shape).Idx → EReal) (c : Dev nD) (r j : Fin 4096) :
    (Layout.blockN ⟨3, ![1, 4096, 4096]⟩ ⟨3, ![2, 4096, 4096]⟩ (Layout.meshBlock [2, 2, 2] ![[1], [], []] c) v) (ix3 0 r j) = v (ix3 (side c) r j) := by
  refine congrArg v (funext fun a => Fin.ext ?_)
  match a with
  | ⟨0, _⟩ =>
    have e : Layout.meshLin [2, 2, 2] c.val [1] = (side c).val := by revert c; decide +kernel
    show Layout.meshLin [2, 2, 2] c.val [1] * 1 + 0 = (side c).val
    omega
  | ⟨1, _⟩ => show 0 * 4096 + r.val = r.val; omega
  | ⟨2, _⟩ => show 0 * 4096 + j.val = j.val; omega

/-- A chunk, entry by entry. -/
theorem chunk_eq (m : (ℓ : Loc nD τ sig) → Buf (Elt Ideal) ℓ) (p : FVec Ideal ⟨3, ![2, 4096, 4096]⟩ .f32) (x : FVec Ideal S4096x4096 .f32) (g : FVec Ideal S4096 .f32)
    (hp : ∀ c : Dev nD, m ((c : Thread nD τ).loc main_arg0) = Layout.blockN ⟨3, ![1, 4096, 4096]⟩ ⟨3, ![2, 4096, 4096]⟩ (Layout.meshBlock [2, 2, 2] ![[1], [], []] c) p)
    (hx : ∀ c : Dev nD, m ((c : Thread nD τ).loc main_arg1) = x) (hg : ∀ c : Dev nD, m ((c : Thread nD τ).loc main_arg2) = g) (d : Dev nD) (k : Fin 16) (i : Fin 64) (j : Fin 4096) :
    flat (F := Ideal) (fin (dataOf m) d k) (ix2 i j) = refOut p x g (ix2 (rowAt d k i) j) := by
  have hpart : ∀ (d : Dev nD) (r j : Fin 4096), (dataOf m).part d (ix3 0 r j) = p (ix3 (side d) r j) := fun d r j =>
    (congrFun (hp d) (ix3 0 r j)).trans (block_apply p d r j)
  have hown : ∀ (d : Dev nD) (l : Fin 4096), own (dataOf m) d k (ix3 0 i l) = p (ix3 (side d) (rowAt d k i) l) := fun d l =>
    (congrArg ((dataOf m).part d) (emb3 d k i l)).trans (hpart d _ l)
  have hres : ∀ l : Fin 4096, res (dataOf m) d k (ix2 i l) = x (ix2 (rowAt d k i) l) := fun l =>
    (congrArg ((dataOf m).resid d) (emb2 d k i l)).trans (congrFun (hx d) _)
  have hsum : ∀ l : Fin 4096, own (dataOf m) d k (ix3 0 i l) + own (dataOf m) (devY d) k (ix3 0 i l)
      = p (ix3 0 (rowAt d k i) l) + p (ix3 1 (rowAt d k i) l) := fun l => by
    rw [hown, hown, rowAt_devY]
    rcases sides d with ⟨h0, h1⟩ | ⟨h0, h1⟩
    · rw [h0, h1]
    · rw [h0, h1, add_comm]
  rw [refOut_apply]
  refine (rowsOf_apply (own (dataOf m) d k) (own (dataOf m) (devY d) k) (res (dataOf m) d k) ((dataOf m).gamma d) i j).trans ?_
  exact congrArg₂ (fun a b => rmsNorm a b j) (funext fun l => congrArg₂ (· + ·) (hsum l) (hres l))
    (funext fun l => (gamma_apply m d l).trans (congrFun (hg d) _))

/-- Every device's result is the reference's, where the devices hold their parts of the reference's arrays. -/
theorem outVal_eq (m : (ℓ : Loc nD τ sig) → Buf (Elt Ideal) ℓ) (p : FVec Ideal ⟨3, ![2, 4096, 4096]⟩ .f32) (x : FVec Ideal S4096x4096 .f32) (g : FVec Ideal S4096 .f32)
    (hp : ∀ c : Dev nD, m ((c : Thread nD τ).loc main_arg0) = Layout.blockN ⟨3, ![1, 4096, 4096]⟩ ⟨3, ![2, 4096, 4096]⟩ (Layout.meshBlock [2, 2, 2] ![[1], [], []] c) p)
    (hx : ∀ c : Dev nD, m ((c : Thread nD τ).loc main_arg1) = x) (hg : ∀ c : Dev nD, m ((c : Thread nD τ).loc main_arg2) = g) (c : Dev nD) :
    outVal (dataOf m) c = refOut p x g := by
  refine Rect.ext_of_cover (R2 c) (cover2 c) fun q y => ?_
  refine (Rect.glue_emb (R2 c) (cover2 c) (apart2 c) _ q y).trans ?_
  have hy : y = ix2 (n0 := 64) (n1 := 4096) (y 0) (y 1) := eq_ix2 (n0 := 64) (n1 := 4096) y
  rw [hy]
  exact (chunk_eq m p x g hp hx hg (four c q.1) q.2 (y 0) (y 1)).trans (congrArg (refOut p x g) (emb2 (four c q.1) q.2 (y 0) (y 1)).symm)

end Cert.KernelIdeal.Talk

end
-- ==== Proof.lean ====
/-
The proof of `Cert.Claim`: the three programs run, end with their arguments as they were and with every
semaphore at zero; the kernel is its own idealization; and at the exact reals the kernel's result, on every
device, is the reference's.

The kernel's runs are the modules `LaunchBits` and `LaunchIdeal`: one proof, at any float values, for each of
the two printed programs. The reference has no kernel and no semaphores: its run is the host operations'. The
equality of the results is `ValueIdeal`'s.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.LaunchBits
public import proofs.«01_k».proof.Proof.LaunchIdeal
public import proofs.«01_k».proof.Proof.Norm
public import proofs.«01_k».proof.Proof.ValueIdeal
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.SL.Sem

/-- The kernel runs, at the machine's floats. -/
theorem frame_kernel : Cert.quiescent_Kernel (hKernel := Cert.Kernel.Gen.facts) := fun m ρ _ =>
  (θ_run Cert.Kernel.defs _ _).mono (fun _ h => ⟨fun c => (h.1 c).2, h.2⟩) (Cert.Kernel.Talk.run_main (F := Bits) m ρ)

/-- The kernel runs, at the exact reals. -/
theorem frame_kernelIdeal : Cert.quiescent_KernelIdeal (hKernelIdeal := Cert.KernelIdeal.Gen.facts) := fun m ρ _ =>
  (θ_run Cert.KernelIdeal.defs _ _).mono (fun _ h => ⟨fun c => (h.1 c).2, h.2⟩) (Cert.KernelIdeal.Talk.run_main (F := Ideal) m ρ)

/-- The reference runs; it has no semaphores. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- At the exact reals every device's result is the reference's. -/
theorem same_result : Cert.algebraic_KernelIdeal_ReferenceIdeal (hKernelIdeal := Cert.KernelIdeal.Gen.facts)
    (hReferenceIdeal := Cert.ReferenceIdeal.Gen.facts) := fun m ρ m' ρ' _ hm =>
  ⟨_, (θ_run Cert.KernelIdeal.defs _ _).mono (fun _ h c => ⟨(h.1 c).1.trans
        (Cert.KernelIdeal.Talk.outVal_eq m _ _ _ (fun d => (hm d).1) (fun d => (hm d).2.1) (fun d => (hm d).2.2) c), (h.1 c).2⟩)
      (Cert.KernelIdeal.Talk.run_main (F := Ideal) m ρ),
    (θ_run Cert.ReferenceIdeal.defs _ _).mono (fun _ h => h 0) (Cert.ReferenceIdeal.Value.run (F := Ideal) m' ρ')⟩

theorem claim : Cert.Claim :=
  ⟨Cert.Kernel.Gen.facts, Cert.KernelIdeal.Gen.facts, Cert.ReferenceIdeal.Gen.facts,
    frame_kernel, frame_kernelIdeal, frame_reference, trivial, same_result⟩

end Cert.Proof

end
